-- ==== Defs.lean ====
def Pre_Kernel [hPre_cols : Cert.Pre_cols.Facts] (m : (ℓ : Loc Cert.Kernel.nD Cert.Kernel.τ Cert.Kernel.sig) → Buf (Elt Bits) ℓ) : Prop :=
  ∀ c : Dev Cert.Kernel.nD,
    (Cert.Pre_cols.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_cols : Cert.Pre_cols.Facts] (m : (ℓ : Loc Cert.KernelIdeal.nD Cert.KernelIdeal.τ Cert.KernelIdeal.sig) → Buf (Elt Ideal) ℓ) : Prop :=
  ∀ c : Dev Cert.KernelIdeal.nD,
    (Cert.Pre_cols.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_cols : Cert.Pre_cols.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_cols : Cert.Pre_cols.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_cols : Cert.Pre_cols.Facts) (hPre_pre : Cert.Pre_pre.Facts),
    quiescent_Kernel (hKernel := hKernel) (hPre_cols := hPre_cols)
    ∧ quiescent_KernelIdeal (hKernelIdeal := hKernelIdeal) (hPre_cols := hPre_cols)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_cols.lean ====
abbrev S6144x3072 : Shape := ⟨2, ![6144, 3072]⟩
abbrev S6144x96 : Shape := ⟨2, ![6144, 96]⟩
abbrev S3072x61440 : Shape := ⟨2, ![3072, 61440]⟩
abbrev S96x61440 : Shape := ⟨2, ![96, 61440]⟩
abbrev S61440x3072 : Shape := ⟨2, ![61440, 3072]⟩
abbrev S1920x3072 : Shape := ⟨2, ![1920, 3072]⟩
abbrev S48x12 : Shape := ⟨2, ![48, 12]⟩
abbrev S48x1 : Shape := ⟨2, ![48, 1]⟩
abbrev S_ : Shape := ⟨0, ![]⟩

class Facts : Prop where
  slices_S48x12_S48x1_0_0 : S48x12.Slices ![0, 0] S48x1
  bcast_S_S48x1 : S_.BroadcastsInDim S48x1 (![] : Fin 0 → Fin S48x1.rank)
  bcast_S48x1_S48x12_0_1 : S48x1.BroadcastsInDim S48x12 (![0, 1] : Fin 2 → Fin S48x12.rank)

variable [Facts]

def fn {F : FTy → Type} [FloatOps F] (main_arg0 : IVec S6144x3072 8) (main_arg1 : IVec S6144x96 8) (main_arg2 : IVec S3072x61440 8) (main_arg3 : IVec S96x61440 8) (main_arg4 : IVec S61440x3072 8) (main_arg5 : IVec S1920x3072 8) (main_arg6 : IVec S48x12 32) : IVec S48x12 1 :=
  let main_v0 : IVec S48x1 32 := (extractStridedSlice S48x1 ![0, 0] · slices_S48x12_S48x1_0_0) main_arg6
  let main_c : IVec S_ 32 := constantI S_ 32 0#32
  let main_v1 : IVec S48x1 32 := broadcastInDim S48x1 ![] bcast_S_S48x1 main_c
  let main_v2 : IVec S48x1 1 := cmpi .sge main_v0 main_v1
  let main_c_0 : IVec S_ 32 := constantI S_ 32 480#32
  let main_v3 : IVec S48x1 32 := broadcastInDim S48x1 ![] bcast_S_S48x1 main_c_0
  let main_v4 : IVec S48x1 1 := cmpi .slt main_v0 main_v3
  let main_v5 : IVec S48x1 1 := andi main_v2 main_v4
  let main_c_1 : IVec S_ 32 := constantI S_ 32 12#32
  let main_v6 : IVec S48x1 32 := broadcastInDim S48x1 ![] bcast_S_S48x1 main_c_1
  let main_v7 : IVec S48x1 32 := Host.remsi main_v0 main_v6
  let main_c_2 : IVec S_ 32 := constantI S_ 32 0#32
  let main_v8 : IVec S48x1 32 := broadcastInDim S48x1 ![] bcast_S_S48x1 main_c_2
  let main_v9 : IVec S48x1 1 := cmpi .eq main_v7 main_v8
  let main_v10 : IVec S48x1 1 := andi main_v5 main_v9
  let main_v11 : IVec S48x12 32 := iotaInDim S48x12 32 1
  let main_v12 : IVec S48x12 32 := broadcastInDim S48x12 ![0, 1] bcast_S48x1_S48x12_0_1 main_v0
  let main_v13 : IVec S48x12 32 := addi main_v12 main_v11
  let main_v14 : IVec S48x12 1 := cmpi .eq main_arg6 main_v13
  let main_v15 : IVec S48x12 1 := broadcastInDim S48x12 ![0, 1] bcast_S48x1_S48x12_0_1 main_v10
  let main_v16 : IVec S48x12 1 := andi main_v15 main_v14
  main_v16
-- ==== Pre_pre.lean ====
abbrev S6144x3072 : Shape := ⟨2, ![6144, 3072]⟩
abbrev S6144x96 : Shape := ⟨2, ![6144, 96]⟩
abbrev S3072x61440 : Shape := ⟨2, ![3072, 61440]⟩
abbrev S96x61440 : Shape := ⟨2, ![96, 61440]⟩
abbrev S61440x3072 : Shape := ⟨2, ![61440, 3072]⟩
abbrev S1920x3072 : Shape := ⟨2, ![1920, 3072]⟩
abbrev S48x12 : Shape := ⟨2, ![48, 12]⟩
abbrev S48x1 : Shape := ⟨2, ![48, 1]⟩
abbrev S_ : Shape := ⟨0, ![]⟩

class Facts : Prop where
  slices_S48x12_S48x1_0_0 : S48x12.Slices ![0, 0] S48x1
  bcast_S_S48x1 : S_.BroadcastsInDim S48x1 (![] : Fin 0 → Fin S48x1.rank)
  bcast_S48x1_S48x12_0_1 : S48x1.BroadcastsInDim S48x12 (![0, 1] : Fin 2 → Fin S48x12.rank)
  reducesTo_S48x12_S_d0_1 : S48x12.ReducesTo [0, 1] S_
  h_S_ : 0 < S_.numel
  bcast_S_S6144x96 : S_.BroadcastsInDim S6144x96 (![] : Fin 0 → Fin S6144x96.rank)
  reducesTo_S6144x96_S_d0_1 : S6144x96.ReducesTo [0, 1] S_
  bcast_S_S96x61440 : S_.BroadcastsInDim S96x61440 (![] : Fin 0 → Fin S96x61440.rank)
  reducesTo_S96x61440_S_d0_1 : S96x61440.ReducesTo [0, 1] S_
  bcast_S_S1920x3072 : S_.BroadcastsInDim S1920x3072 (![] : Fin 0 → Fin S1920x3072.rank)
  reducesTo_S1920x3072_S_d0_1 : S1920x3072.ReducesTo [0, 1] S_
  bcast_S_S6144x3072 : S_.BroadcastsInDim S6144x3072 (![] : Fin 0 → Fin S6144x3072.rank)
  reducesTo_S6144x3072_S_d0_1 : S6144x3072.ReducesTo [0, 1] S_
  bcast_S_S3072x61440 : S_.BroadcastsInDim S3072x61440 (![] : Fin 0 → Fin S3072x61440.rank)
  reducesTo_S3072x61440_S_d0_1 : S3072x61440.ReducesTo [0, 1] S_

variable [Facts]

def fn_part3 {F : FTy → Type} [FloatOps F] (main_v45 : IVec S_ 1) (main_v51 : IVec S_ 1) : IVec S_ 1 :=
  let main_v52 : IVec S_ 1 := andi main_v45 main_v51
  main_v52

def fn_part2 {F : FTy → Type} [FloatOps F] (main_arg0 : IVec S6144x3072 8) (main_arg2 : IVec S3072x61440 8) (main_arg5 : IVec S1920x3072 8) (main_v31 : IVec S_ 1) (main_v33 : IVec S1920x3072 1) (main_v34 : IVec S1920x3072 8) : IVec S_ 1 :=
  let main_v35 : IVec S1920x3072 1 := cmpi .ule main_arg5 main_v34
  let main_v36 : IVec S1920x3072 1 := andi main_v33 main_v35
  let main_c_12 : IVec S_ 1 := constantI S_ 1 1#1
  let main_v37 : IVec S_ 1 := (fun x v => Host.reduce IntOp.andi x v reducesTo_S1920x3072_S_d0_1 h_S_) main_v36 main_c_12
  let main_v38 : IVec S_ 1 := andi main_v31 main_v37
  let main_c_13 : IVec S_ 8 := constantI S_ 8 127#8
  let main_v39 : IVec S6144x3072 8 := broadcastInDim S6144x3072 ![] bcast_S_S6144x3072 main_c_13
  let main_v40 : IVec S6144x3072 1 := cmpi .ne main_arg0 main_v39
  let main_c_14 : IVec S_ 8 := constantI S_ 8 255#8
  let main_v41 : IVec S6144x3072 8 := broadcastInDim S6144x3072 ![] bcast_S_S6144x3072 main_c_14
  let main_v42 : IVec S6144x3072 1 := cmpi .ne main_arg0 main_v41
  let main_v43 : IVec S6144x3072 1 := andi main_v40 main_v42
  let main_c_15 : IVec S_ 1 := constantI S_ 1 1#1
  let main_v44 : IVec S_ 1 := (fun x v => Host.reduce IntOp.andi x v reducesTo_S6144x3072_S_d0_1 h_S_) main_v43 main_c_15
  let main_v45 : IVec S_ 1 := andi main_v38 main_v44
  let main_c_16 : IVec S_ 8 := constantI S_ 8 127#8
  let main_v46 : IVec S3072x61440 8 := broadcastInDim S3072x61440 ![] bcast_S_S3072x61440 main_c_16
  let main_v47 : IVec S3072x61440 1 := cmpi .ne main_arg2 main_v46
  let main_c_17 : IVec S_ 8 := constantI S_ 8 255#8
  let main_v48 : IVec S3072x61440 8 := broadcastInDim S3072x61440 ![] bcast_S_S3072x61440 main_c_17
  let main_v49 : IVec S3072x61440 1 := cmpi .ne main_arg2 main_v48
  let main_v50 : IVec S3072x61440 1 := andi main_v47 main_v49
  let main_c_18 : IVec S_ 1 := constantI S_ 1 1#1
  let main_v51 : IVec S_ 1 := (fun x v => Host.reduce IntOp.andi x v reducesTo_S3072x61440_S_d0_1 h_S_) main_v50 main_c_18
  fn_part3 (F := F) main_v45 main_v51

def fn_part1 {F : FTy → Type} [FloatOps F] (main_arg0 : IVec S6144x3072 8) (main_arg1 : IVec S6144x96 8) (main_arg2 : IVec S3072x61440 8) (main_arg3 : IVec S96x61440 8) (main_arg5 : IVec S1920x3072 8) (main_v17 : IVec S_ 1) (main_c_4 : IVec S_ 8) : IVec S_ 1 :=
  let main_v18 : IVec S6144x96 8 := broadcastInDim S6144x96 ![] bcast_S_S6144x96 main_c_4
  let main_v19 : IVec S6144x96 1 := cmpi .uge main_arg1 main_v18
  let main_c_5 : IVec S_ 8 := constantI S_ 8 179#8
  let main_v20 : IVec S6144x96 8 := broadcastInDim S6144x96 ![] bcast_S_S6144x96 main_c_5
  let main_v21 : IVec S6144x96 1 := cmpi .ule main_arg1 main_v20
  let main_v22 : IVec S6144x96 1 := andi main_v19 main_v21
  let main_c_6 : IVec S_ 1 := constantI S_ 1 1#1
  let main_v23 : IVec S_ 1 := (fun x v => Host.reduce IntOp.andi x v reducesTo_S6144x96_S_d0_1 h_S_) main_v22 main_c_6
  let main_v24 : IVec S_ 1 := andi main_v17 main_v23
  let main_c_7 : IVec S_ 8 := constantI S_ 8 1#8
  let main_v25 : IVec S96x61440 8 := broadcastInDim S96x61440 ![] bcast_S_S96x61440 main_c_7
  let main_v26 : IVec S96x61440 1 := cmpi .uge main_arg3 main_v25
  let main_c_8 : IVec S_ 8 := constantI S_ 8 179#8
  let main_v27 : IVec S96x61440 8 := broadcastInDim S96x61440 ![] bcast_S_S96x61440 main_c_8
  let main_v28 : IVec S96x61440 1 := cmpi .ule main_arg3 main_v27
  let main_v29 : IVec S96x61440 1 := andi main_v26 main_v28
  let main_c_9 : IVec S_ 1 := constantI S_ 1 1#1
  let main_v30 : IVec S_ 1 := (fun x v => Host.reduce IntOp.andi x v reducesTo_S96x61440_S_d0_1 h_S_) main_v29 main_c_9
  let main_v31 : IVec S_ 1 := andi main_v24 main_v30
  let main_c_10 : IVec S_ 8 := constantI S_ 8 1#8
  let main_v32 : IVec S1920x3072 8 := broadcastInDim S1920x3072 ![] bcast_S_S1920x3072 main_c_10
  let main_v33 : IVec S1920x3072 1 := cmpi .uge main_arg5 main_v32
  let main_c_11 : IVec S_ 8 := constantI S_ 8 254#8
  let main_v34 : IVec S1920x3072 8 := broadcastInDim S1920x3072 ![] bcast_S_S1920x3072 main_c_11
  fn_part2 (F := F) main_arg0 main_arg2 main_arg5 main_v31 main_v33 main_v34

def fn {F : FTy → Type} [FloatOps F] (main_arg0 : IVec S6144x3072 8) (main_arg1 : IVec S6144x96 8) (main_arg2 : IVec S3072x61440 8) (main_arg3 : IVec S96x61440 8) (main_arg4 : IVec S61440x3072 8) (main_arg5 : IVec S1920x3072 8) (main_arg6 : IVec S48x12 32) : IVec S_ 1 :=
  let main_v0 : IVec S48x1 32 := (extractStridedSlice S48x1 ![0, 0] · slices_S48x12_S48x1_0_0) main_arg6
  let main_c : IVec S_ 32 := constantI S_ 32 0#32
  let main_v1 : IVec S48x1 32 := broadcastInDim S48x1 ![] bcast_S_S48x1 main_c
  let main_v2 : IVec S48x1 1 := cmpi .sge main_v0 main_v1
  let main_c_0 : IVec S_ 32 := constantI S_ 32 480#32
  let main_v3 : IVec S48x1 32 := broadcastInDim S48x1 ![] bcast_S_S48x1 main_c_0
  let main_v4 : IVec S48x1 1 := cmpi .slt main_v0 main_v3
  let main_v5 : IVec S48x1 1 := andi main_v2 main_v4
  let main_c_1 : IVec S_ 32 := constantI S_ 32 12#32
  let main_v6 : IVec S48x1 32 := broadcastInDim S48x1 ![] bcast_S_S48x1 main_c_1
  let main_v7 : IVec S48x1 32 := Host.remsi main_v0 main_v6
  let main_c_2 : IVec S_ 32 := constantI S_ 32 0#32
  let main_v8 : IVec S48x1 32 := broadcastInDim S48x1 ![] bcast_S_S48x1 main_c_2
  let main_v9 : IVec S48x1 1 := cmpi .eq main_v7 main_v8
  let main_v10 : IVec S48x1 1 := andi main_v5 main_v9
  let main_v11 : IVec S48x12 32 := iotaInDim S48x12 32 1
  let main_v12 : IVec S48x12 32 := broadcastInDim S48x12 ![0, 1] bcast_S48x1_S48x12_0_1 main_v0
  let main_v13 : IVec S48x12 32 := addi main_v12 main_v11
  let main_v14 : IVec S48x12 1 := cmpi .eq main_arg6 main_v13
  let main_v15 : IVec S48x12 1 := broadcastInDim S48x12 ![0, 1] bcast_S48x1_S48x12_0_1 main_v10
  let main_v16 : IVec S48x12 1 := andi main_v15 main_v14
  let main_c_3 : IVec S_ 1 := constantI S_ 1 1#1
  let main_v17 : IVec S_ 1 := (fun x v => Host.reduce IntOp.andi x v reducesTo_S48x12_S_d0_1 h_S_) main_v16 main_c_3
  let main_c_4 : IVec S_ 8 := constantI S_ 8 1#8
  fn_part1 (F := F) main_arg0 main_arg1 main_arg2 main_arg3 main_arg5 main_v17 main_c_4
-- ==== Kernel.lean ====
abbrev S6144x3072 : Shape := ⟨2, ![6144, 3072]⟩
abbrev S6144x96 : Shape := ⟨2, ![6144, 96]⟩
abbrev S3072x61440 : Shape := ⟨2, ![3072, 61440]⟩
abbrev S96x61440 : Shape := ⟨2, ![96, 61440]⟩
abbrev S61440x3072 : Shape := ⟨2, ![61440, 3072]⟩
abbrev S1920x3072 : Shape := ⟨2, ![1920, 3072]⟩
abbrev S48x12 : Shape := ⟨2, ![48, 12]⟩
abbrev S48x1 : Shape := ⟨2, ![48, 1]⟩
abbrev S48 : Shape := ⟨1, ![48]⟩
abbrev S_ : Shape := ⟨0, ![]⟩
abbrev S6144x1536 : Shape := ⟨2, ![6144, 1536]⟩
abbrev S6144x48 : Shape := ⟨2, ![6144, 48]⟩
abbrev S128x3072 : Shape := ⟨2, ![128, 3072]⟩
abbrev S128x96 : Shape := ⟨2, ![128, 96]⟩
abbrev S3072x1536 : Shape := ⟨2, ![3072, 1536]⟩
abbrev S1 : Shape := ⟨1, ![1]⟩
abbrev S96x1536 : Shape := ⟨2, ![96, 1536]⟩
abbrev S1536x3072 : Shape := ⟨2, ![1536, 3072]⟩
abbrev S96x3072 : Shape := ⟨2, ![96, 3072]⟩
abbrev S128x1536 : Shape := ⟨2, ![128, 1536]⟩
abbrev S128x48 : Shape := ⟨2, ![128, 48]⟩
abbrev S48x3072 : Shape := ⟨2, ![48, 3072]⟩
abbrev S128x128 : Shape := ⟨2, ![128, 128]⟩
abbrev S128x32 : Shape := ⟨2, ![128, 32]⟩
abbrev S128x128x1 : Shape := ⟨3, ![128, 128, 1]⟩
abbrev S128x512 : Shape := ⟨2, ![128, 512]⟩
abbrev S256x512 : Shape := ⟨2, ![256, 512]⟩
abbrev S8x512 : Shape := ⟨2, ![8, 512]⟩
abbrev S1x512 : Shape := ⟨2, ![1, 512]⟩
abbrev S16x512 : Shape := ⟨2, ![16, 512]⟩
abbrev S32x512 : Shape := ⟨2, ![32, 512]⟩
abbrev S128x256 : Shape := ⟨2, ![128, 256]⟩

abbrev nBuf : Space → Nat
  | .hbm => 32
  | .vmem => 22
  | .smem => 1
  | _ => 0

abbrev bufTy : (tb : Table) → Fin (tcTables nBuf tb) → BufTy
  | .hbm, ⟨0, _⟩ => ⟨S6144x3072, .i8⟩
  | .hbm, ⟨1, _⟩ => ⟨S6144x96, .i8⟩
  | .hbm, ⟨2, _⟩ => ⟨S3072x61440, .i8⟩
  | .hbm, ⟨3, _⟩ => ⟨S96x61440, .i8⟩
  | .hbm, ⟨4, _⟩ => ⟨S61440x3072, .i8⟩
  | .hbm, ⟨5, _⟩ => ⟨S1920x3072, .i8⟩
  | .hbm, ⟨6, _⟩ => ⟨S48x12, .i32⟩
  | .hbm, ⟨7, _⟩ => ⟨S6144x3072, .fp8e4m3⟩
  | .hbm, ⟨8, _⟩ => ⟨S3072x61440, .fp8e4m3⟩
  | .hbm, ⟨9, _⟩ => ⟨S61440x3072, .fp8e4m3⟩
  | .hbm, ⟨10, _⟩ => ⟨S48x1, .i32⟩
  | .hbm, ⟨11, _⟩ => ⟨S48, .i32⟩
  | .hbm, ⟨12, _⟩ => ⟨S_, .i32⟩
  | .hbm, ⟨13, _⟩ => ⟨S_, .i32⟩
  | .hbm, ⟨14, _⟩ => ⟨S48, .i32⟩
  | .hbm, ⟨15, _⟩ => ⟨S48, .i32⟩
  | .hbm, ⟨16, _⟩ => ⟨S48, .i32⟩
  | .hbm, ⟨17, _⟩ => ⟨S_, .i32⟩
  | .hbm, ⟨18, _⟩ => ⟨S48, .i32⟩
  | .hbm, ⟨19, _⟩ => ⟨S48, .i1⟩
  | .hbm, ⟨20, _⟩ => ⟨S48, .i32⟩
  | .hbm, ⟨21, _⟩ => ⟨S48, .i32⟩
  | .hbm, ⟨22, _⟩ => ⟨S_, .i32⟩
  | .hbm, ⟨23, _⟩ => ⟨S48, .i32⟩
  | .hbm, ⟨24, _⟩ => ⟨S48, .i1⟩
  | .hbm, ⟨25, _⟩ => ⟨S48, .i1⟩
  | .hbm, ⟨26, _⟩ => ⟨S_, .i32⟩
  | .hbm, ⟨27, _⟩ => ⟨S48, .i32⟩
  | .hbm, ⟨28, _⟩ => ⟨S48, .i32⟩
  | .hbm, ⟨29, _⟩ => ⟨S6144x3072, .bf16⟩
  | .hbm, ⟨30, _⟩ => ⟨S6144x1536, .fp8e4m3⟩
  | .hbm, ⟨31, _⟩ => ⟨S6144x48, .i8⟩
  | .local _ .vmem, ⟨0, _⟩ => ⟨S128x3072, .fp8e4m3⟩
  | .local _ .vmem, ⟨1, _⟩ => ⟨S128x3072, .fp8e4m3⟩
  | .local _ .vmem, ⟨2, _⟩ => ⟨S128x96, .i8⟩
  | .local _ .vmem, ⟨3, _⟩ => ⟨S128x96, .i8⟩
  | .local _ .vmem, ⟨4, _⟩ => ⟨S3072x1536, .fp8e4m3⟩
  | .local _ .vmem, ⟨5, _⟩ => ⟨S3072x1536, .fp8e4m3⟩
  | .local _ .vmem, ⟨6, _⟩ => ⟨S96x1536, .i8⟩
  | .local _ .vmem, ⟨7, _⟩ => ⟨S96x1536, .i8⟩
  | .local _ .vmem, ⟨8, _⟩ => ⟨S1536x3072, .fp8e4m3⟩
  | .local _ .vmem, ⟨9, _⟩ => ⟨S1536x3072, .fp8e4m3⟩
  | .local _ .vmem, ⟨10, _⟩ => ⟨S96x3072, .i8⟩
  | .local _ .vmem, ⟨11, _⟩ => ⟨S96x3072, .i8⟩
  | .local _ .vmem, ⟨12, _⟩ => ⟨S128x3072, .bf16⟩
  | .local _ .vmem, ⟨13, _⟩ => ⟨S128x3072, .bf16⟩
  | .local _ .vmem, ⟨14, _⟩ => ⟨S128x1536, .fp8e4m3⟩
  | .local _ .vmem, ⟨15, _⟩ => ⟨S128x1536, .fp8e4m3⟩
  | .local _ .vmem, ⟨16, _⟩ => ⟨S128x48, .i8⟩
  | .local _ .vmem, ⟨17, _⟩ => ⟨S128x48, .i8⟩
  | .local _ .vmem, ⟨18, _⟩ => ⟨S96x1536, .i32⟩
  | .local _ .vmem, ⟨19, _⟩ => ⟨S48x3072, .i32⟩
  | .local _ .vmem, ⟨20, _⟩ => ⟨S128x3072, .bf16⟩
  | .local _ .vmem, ⟨21, _⟩ => ⟨S128x3072, .f32⟩
  | .local _ .smem, ⟨0, _⟩ => ⟨S48, .i32⟩
  | _, _ => ⟨S6144x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6_0 : Ref sig .tc := ⟨.hbm, 29, rfl⟩
abbrev main_v6_1 : Ref sig .tc := ⟨.hbm, 30, rfl⟩
abbrev main_v6_2 : Ref sig .tc := ⟨.hbm, 31, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S48.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  ![c0_i32.toNat, v1.toNat]

def cc0_transform_3 (k0_off1_inb : ∀ i : grid0.Coords, ∀ a, (k0_off1 i) a + S1.size a ≤ S48.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  ![c0_i32.toNat, v1.toNat]

def cc0_transform_4 (k0_off1_inb : ∀ i : grid0.Coords, ∀ a, (k0_off1 i) a + S1.size a ≤ S48.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S48.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x96 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x3072 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x3072 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x48 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S6144x3072 : Shape := ⟨2, ![6144, 3072]⟩
abbrev S6144x96 : Shape := ⟨2, ![6144, 96]⟩
abbrev S3072x61440 : Shape := ⟨2, ![3072, 61440]⟩
abbrev S96x61440 : Shape := ⟨2, ![96, 61440]⟩
abbrev S61440x3072 : Shape := ⟨2, ![61440, 3072]⟩
abbrev S1920x3072 : Shape := ⟨2, ![1920, 3072]⟩
abbrev S48x12 : Shape := ⟨2, ![48, 12]⟩
abbrev S3072x480x128 : Shape := ⟨3, ![3072, 480, 128]⟩
abbrev S48x12x1 : Shape := ⟨3, ![48, 12, 1]⟩
abbrev S3072x48x12x128 : Shape := ⟨4, ![3072, 48, 12, 128]⟩
abbrev S96x480x128 : Shape := ⟨3, ![96, 480, 128]⟩
abbrev S96x48x12x128 : Shape := ⟨4, ![96, 48, 12, 128]⟩
abbrev S480x128x3072 : Shape := ⟨3, ![480, 128, 3072]⟩
abbrev S48x12x128x3072 : Shape := ⟨4, ![48, 12, 128, 3072]⟩
abbrev S480x4x3072 : Shape := ⟨3, ![480, 4, 3072]⟩
abbrev S48x12x4x3072 : Shape := ⟨4, ![48, 12, 4, 3072]⟩
abbrev S48x128x3072 : Shape := ⟨3, ![48, 128, 3072]⟩
abbrev S48x128x96 : Shape := ⟨3, ![48, 128, 96]⟩
abbrev S48x3072x12x128 : Shape := ⟨4, ![48, 3072, 12, 128]⟩
abbrev S48x3072x1536 : Shape := ⟨3, ![48, 3072, 1536]⟩
abbrev S48x96x12x128 : Shape := ⟨4, ![48, 96, 12, 128]⟩
abbrev S48x96x1536 : Shape := ⟨3, ![48, 96, 1536]⟩
abbrev S48x1536x3072 : Shape := ⟨3, ![48, 1536, 3072]⟩
abbrev S48x48x3072 : Shape := ⟨3, ![48, 48, 3072]⟩
abbrev S48x128x1536 : Shape := ⟨3, ![48, 128, 1536]⟩
abbrev S48x128x48 : Shape := ⟨3, ![48, 128, 48]⟩
abbrev S48x128x96x32 : Shape := ⟨4, ![48, 128, 96, 32]⟩
abbrev S48x128x96x1 : Shape := ⟨4, ![48, 128, 96, 1]⟩
abbrev S48x96x32x1536 : Shape := ⟨4, ![48, 96, 32, 1536]⟩
abbrev S48x96x1x1536 : Shape := ⟨4, ![48, 96, 1, 1536]⟩
abbrev S48x48x32x3072 : Shape := ⟨4, ![48, 48, 32, 3072]⟩
abbrev S48x48x1x3072 : Shape := ⟨4, ![48, 48, 1, 3072]⟩
abbrev S48x128x48x32 : Shape := ⟨4, ![48, 128, 48, 32]⟩
abbrev S48x128x48x254 : Shape := ⟨4, ![48, 128, 48, 254]⟩
abbrev S48x128x48x1 : Shape := ⟨4, ![48, 128, 48, 1]⟩
abbrev S6144x1536 : Shape := ⟨2, ![6144, 1536]⟩
abbrev S6144x48 : Shape := ⟨2, ![6144, 48]⟩

abbrev nBuf : Space → Nat
  | .hbm => 36
  | .vmem => 9
  | .smem => 0
  | _ => 0

abbrev bufTy : (tb : Table) → Fin (tcTables nBuf tb) → BufTy
  | .hbm, ⟨0, _⟩ => ⟨S6144x3072, .i8⟩
  | .hbm, ⟨1, _⟩ => ⟨S6144x96, .i8⟩
  | .hbm, ⟨2, _⟩ => ⟨S3072x61440, .i8⟩
  | .hbm, ⟨3, _⟩ => ⟨S96x61440, .i8⟩
  | .hbm, ⟨4, _⟩ => ⟨S61440x3072, .i8⟩
  | .hbm, ⟨5, _⟩ => ⟨S1920x3072, .i8⟩
  | .hbm, ⟨6, _⟩ => ⟨S48x12, .i32⟩
  | .hbm, ⟨7, _⟩ => ⟨S6144x3072, .fp8e4m3⟩
  | .hbm, ⟨8, _⟩ => ⟨S3072x61440, .fp8e4m3⟩
  | .hbm, ⟨9, _⟩ => ⟨S61440x3072, .fp8e4m3⟩
  | .hbm, ⟨10, _⟩ => ⟨S3072x480x128, .fp8e4m3⟩
  | .hbm, ⟨11, _⟩ => ⟨S48x12x1, .i32⟩
  | .hbm, ⟨12, _⟩ => ⟨S3072x48x12x128, .fp8e4m3⟩
  | .hbm, ⟨13, _⟩ => ⟨S96x480x128, .i8⟩
  | .hbm, ⟨14, _⟩ => ⟨S48x12x1, .i32⟩
  | .hbm, ⟨15, _⟩ => ⟨S96x48x12x128, .i8⟩
  | .hbm, ⟨16, _⟩ => ⟨S480x128x3072, .fp8e4m3⟩
  | .hbm, ⟨17, _⟩ => ⟨S48x12x1, .i32⟩
  | .hbm, ⟨18, _⟩ => ⟨S48x12x128x3072, .fp8e4m3⟩
  | .hbm, ⟨19, _⟩ => ⟨S480x4x3072, .i8⟩
  | .hbm, ⟨20, _⟩ => ⟨S48x12x1, .i32⟩
  | .hbm, ⟨21, _⟩ => ⟨S48x12x4x3072, .i8⟩
  | .hbm, ⟨22, _⟩ => ⟨S48x128x3072, .fp8e4m3⟩
  | .hbm, ⟨23, _⟩ => ⟨S48x128x96, .i8⟩
  | .hbm, ⟨24, _⟩ => ⟨S48x3072x12x128, .fp8e4m3⟩
  | .hbm, ⟨25, _⟩ => ⟨S48x3072x1536, .fp8e4m3⟩
  | .hbm, ⟨26, _⟩ => ⟨S48x96x12x128, .i8⟩
  | .hbm, ⟨27, _⟩ => ⟨S48x96x1536, .i8⟩
  | .hbm, ⟨28, _⟩ => ⟨S48x1536x3072, .fp8e4m3⟩
  | .hbm, ⟨29, _⟩ => ⟨S48x48x3072, .i8⟩
  | .hbm, ⟨30, _⟩ => ⟨S48x128x3072, .bf16⟩
  | .hbm, ⟨31, _⟩ => ⟨S48x128x1536, .fp8e4m3⟩
  | .hbm, ⟨32, _⟩ => ⟨S48x128x48, .i8⟩
  | .hbm, ⟨33, _⟩ => ⟨S6144x3072, .bf16⟩
  | .hbm, ⟨34, _⟩ => ⟨S6144x1536, .fp8e4m3⟩
  | .hbm, ⟨35, _⟩ => ⟨S6144x48, .i8⟩
  | .local _ .vmem, ⟨0, _⟩ => ⟨S48x128x3072, .fp8e4m3⟩
  | .local _ .vmem, ⟨1, _⟩ => ⟨S48x128x96, .i8⟩
  | .local _ .vmem, ⟨2, _⟩ => ⟨S48x3072x1536, .fp8e4m3⟩
  | .local _ .vmem, ⟨3, _⟩ => ⟨S48x96x1536, .i8⟩
  | .local _ .vmem, ⟨4, _⟩ => ⟨S48x1536x3072, .fp8e4m3⟩
  | .local _ .vmem, ⟨5, _⟩ => ⟨S48x48x3072, .i8⟩
  | .local _ .vmem, ⟨6, _⟩ => ⟨S48x128x3072, .bf16⟩
  | .local _ .vmem, ⟨7, _⟩ => ⟨S48x128x1536, .fp8e4m3⟩
  | .local _ .vmem, ⟨8, _⟩ => ⟨S48x128x48, .i8⟩
  | _, _ => ⟨S6144x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_call3_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S48x128x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x128x96 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x3072x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x96x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1536x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x48x3072 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x128x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x128x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x128x48 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Values.lean ====
/- The values one grid point computes, as functions of the blocks it loads: the same vector operations as the kernel
   function prints, each repeated stretch of it written once. -/
module

public import proofs.«01_k».proof.Proof.Gen.KernelIdeal

@[expose] public section

set_option maxRecDepth 16384

noncomputable section

namespace Cert.KernelIdeal.Moe

open Idealize.ShloMosaic Idealize.ShloMosaic.TcCoe Idealize.ShloMosaic.Scf
open Cert.KernelIdeal
open Facts₀ Facts

variable {F : FTy → Type} [FloatOps F]

/-! ## Side conditions of the repeated stretches, at a variable position -/

theorem slices_word (i : Fin 8) : S8x512.Slices ![i.val, 0] S1x512 := by revert i; decide
theorem slices_rows (i : Fin 8) : S256x512.Slices ![32 * i.val, 0] S32x512 := by revert i; decide
theorem slices_lanes (t : Fin 4) : S128x512.Slices ![0, 128 * t.val] S128x128 := by revert t; decide
theorem slices_half (k : Fin 2) : S128x512.Slices ![0, 256 * k.val] S128x256 := by revert k; decide

/-! ## Scale words and dequantised weights -/

/-- A scale byte `s` as the word whose two halves are both the bf16 number `2 ^ (s - 127)`: first-layer scales. -/
def words1 (v2 : Vec F S96x1536 .i8) : IVec S96x1536 32 :=
  ori (shli (extui 32 v2 natLt_8_32) (broadcast S96x1536 7#32)) (shli (extui 32 v2 natLt_8_32) (broadcast S96x1536 23#32))

/-- The same of the second-layer scales of two neighbouring experts. -/
def words2 (v : Vec F S96x3072 .i8) : IVec S96x3072 32 :=
  ori (shli (extui 32 v natLt_8_32) (broadcast S96x3072 7#32)) (shli (extui 32 v natLt_8_32) (broadcast S96x3072 23#32))

/-- Rows `32 i .. 32 i + 31` of a tile of weight codes times the scale of row `i` of the words. -/
def group (v : FVec F S256x512 .bf16) (w : IVec S8x512 32) (i : Fin 8) : FVec F S32x512 .bf16 :=
  mulf (extractStridedSlice S32x512 ![32 * i.val, 0] v (slices_rows i))
    (bitcastToFloat .bf16 (bitcast S32x512 16
      (broadcastTo S16x512 (shapeCast S1x512 (extractStridedSlice S1x512 ![i.val, 0] w (slices_word i)) shapeCasts_S1x512_S1x512)
        broadcasts_S1x512_S16x512) bitcasts_S16x512_w32_S32x512_w16))

/-- A tile of weight codes dequantised by its scale words. -/
def dequant (c : FVec F S256x512 .fp8e4m3) (w : IVec S8x512 32) : FVec F S256x512 .bf16 :=
  let v := extf .bf16 (shapeCast S256x512 c shapeCasts_S256x512_S256x512) bitsLt_fp8e4m3_bf16
  concatenate S256x512 0 [⟨S32x512, group v w 0⟩, ⟨S32x512, group v w 1⟩, ⟨S32x512, group v w 2⟩, ⟨S32x512, group v w 3⟩,
    ⟨S32x512, group v w 4⟩, ⟨S32x512, group v w 5⟩, ⟨S32x512, group v w 6⟩, ⟨S32x512, group v w 7⟩]
    concatenates_S32x512_S32x512_S32x512_S32x512_S32x512_S32x512_S32x512_S32x512_S256x512_d0

/-- The zero a sum of products starts from. -/
def zero512 : FVec F S128x512 .f32 := broadcast S128x512 (Scalar.ofBits .f32 0x00000000#32)

/-- One step of a sum of products: the running sum plus the product of a left tile and a dequantised weight tile. -/
def mac (a : FVec F S128x512 .f32) (x : FVec F S128x256 .bf16) (c : FVec F S256x512 .fp8e4m3) (w : IVec S8x512 32) :
    FVec F S128x512 .f32 :=
  addf a (matmul dot_S128x256_S256x512_S128x512_1_0_0_1_n_n none x (dequant c w) (constant S128x512 .f32 0x00000000#32))

/-! ## The dequantised activations -/

/-- The lane number at each position. -/
def lane : IVec S128x128 32 := iota .tc S128x128 32 [1] iota_S128x128_d1_w32

/-- Scale bytes as f32 numbers, padded with zeros to a lane tile. -/
def xscale (v38 : Vec F S128x96 .i8) : FVec F S128x128 .f32 :=
  concatenate S128x128 1 [⟨S128x96, bitcastToFloat .f32 (shli (extui 32 v38 natLt_8_32) (broadcast S128x96 23#32))⟩,
    ⟨S128x32, broadcast S128x32 (Scalar.ofBits .f32 0x00000000#32 : F .f32)⟩] concatenates_S128x96_S128x32_S128x128_d1

/-- The lane number divided by `d`, rounded down. -/
def laneDiv (d : BitVec 32) : IVec S128x128 32 :=
  select
    (andi
      (cmpi .ne
        (subi (extui 32 (cmpi .sgt lane (broadcast S128x128 0#32)) natLt_1_32)
          (extui 32 (cmpi .slt lane (broadcast S128x128 0#32)) natLt_1_32))
        (broadcast S128x128 (Scalar.subi (Scalar.extui (Scalar.cmpi .sgt d 0#32)) (Scalar.extui (Scalar.cmpi .slt d 0#32)))))
      (cmpi .ne (remsi lane (broadcast S128x128 d)) (broadcast S128x128 0#32)))
    (subi (divsi lane (broadcast S128x128 d)) (broadcast S128x128 1#32))
    (divsi lane (broadcast S128x128 d))

/-- An index along the lanes as a gather reads it: a negative one counted from the end. -/
def wrap (v : IVec S128x128 32) : IVec S128x128 32 :=
  shapeCast S128x128 (shapeCast S128x128x1
    (select (cmpi .slt v (broadcast S128x128 0#32)) (addi v (broadcast S128x128 128#32)) v)
    shapeCasts_S128x128_S128x128x1) shapeCasts_S128x128x1_S128x128

/-- The scales of lane tile `t`, one per lane. -/
def xscaleTile (sc : FVec F S128x128 .f32) (t : Fin 24) : FVec F S128x128 .f32 :=
  dynamicGather 1 sc (wrap (addi (laneDiv 32#32) (broadcast S128x128 (BitVec.ofNat 32 (4 * t.val)))))

/-- Lane tile `t` of the dequantised activations. -/
def xtile (sc : FVec F S128x128 .f32) (t : Fin 24) (v80 : FVec F S128x128 .fp8e4m3) : FVec F S128x128 .bf16 :=
  truncf .bf16 (mulf (extf .f32 (shapeCast S128x128 v80 shapeCasts_S128x128_S128x128) bitsLt_fp8e4m3_f32) (xscaleTile sc t)) bitsLt_bf16_f32

/-! ## Activation function and quantiser -/

/-- The tanh form of gelu. -/
def gelu (a : FVec F S128x512 .f32) : FVec F S128x512 .f32 :=
  mulf (mulf (broadcast S128x512 (Scalar.ofBits .f32 0x3F000000#32)) a)
    (addf (broadcast S128x512 (Scalar.ofBits .f32 0x3F800000#32))
      (tanh (mulf (broadcast S128x512 (Scalar.ofBits .f32 0x3F4C422A#32))
        (addf a (mulf (broadcast S128x512 (Scalar.ofBits .f32 0x3D372713#32)) (mulf (mulf a a) a))))))

/-- Lane tile `t` of a chunk. -/
def lanes (h : FVec F S128x512 .f32) (t : Fin 4) : FVec F S128x128 .f32 :=
  extractStridedSlice S128x128 ![0, 128 * t.val] h (slices_lanes t)

/-- The larger of each lane and the lane a rotation brings to it. -/
def rollMax (m : FVec F S128x128 .f32) (k : BitVec 32) : FVec F S128x128 .f32 :=
  maximumf m (dynamicRotate 1 k none m rotates_S128x128_d1)

/-- The largest magnitude of each group of 32 lanes, at every lane of the group. -/
def amax (v : FVec F S128x128 .f32) : FVec F S128x128 .f32 :=
  dynamicGather 1
    (rollMax (rollMax (rollMax (rollMax (rollMax (absf v) 127#32) 126#32) 124#32) 120#32) 112#32)
    (wrap (andi lane (broadcast S128x128 4294967264#32)))

/-- The group's magnitude over 448. -/
def ratio (v : FVec F S128x128 .f32) : FVec F S128x128 .f32 :=
  mulf (amax v) (broadcast S128x128 (Scalar.ofBits .f32 0x3B124925#32))

/-- One step of the search for the exponent field: add `b` unless the number is below the power of two it stands for. -/
def bisect (p : FVec F S128x128 .f32) (e : IVec S128x128 32) (b : BitVec 32) : IVec S128x128 32 :=
  select (cmpf .olt p (bitcastToFloat .f32 (shli (addi e (broadcast S128x128 b)) (broadcast S128x128 23#32))))
    e (addi e (broadcast S128x128 b))

/-- The exponent field of each number. -/
def field (p : FVec F S128x128 .f32) : IVec S128x128 32 :=
  bisect p (bisect p (bisect p (bisect p (bisect p (bisect p (bisect p (bisect p (broadcast S128x128 0#32)
    128#32) 64#32) 32#32) 16#32) 8#32) 4#32) 2#32) 1#32

/-- The group's scale byte, as a word. -/
def scaleOf (v : FVec F S128x128 .f32) : IVec S128x128 32 :=
  select (cmpi .eq (field (ratio v)) (broadcast S128x128 0#32)) (broadcast S128x128 127#32)
    (addi (field (ratio v)) (broadcast S128x128 1#32))

/-- A lane tile divided by its scales, clipped and cast to codes. -/
def codesOf (v : FVec F S128x128 .f32) : FVec F S128x128 .fp8e4m3 :=
  truncf .fp8e4m3
    (minimumf (broadcast S128x128 (Scalar.ofBits .f32 0x43E00000#32))
      (maximumf (broadcast S128x128 (Scalar.ofBits .f32 0xC3E00000#32))
        (mulf v (bitcastToFloat .f32 (shli (subi (broadcast S128x128 254#32) (scaleOf v)) (broadcast S128x128 23#32))))))
    bitsLt_fp8e4m3_f32

/-- The codes times their scales again. -/
def decoded (v : FVec F S128x128 .f32) : FVec F S128x128 .bf16 :=
  truncf .bf16 (mulf (extf .f32 (codesOf v) bitsLt_fp8e4m3_f32)
    (bitcastToFloat .f32 (shli (scaleOf v) (broadcast S128x128 23#32)))) bitsLt_bf16_f32

/-- A chunk of hidden values quantised and decoded. -/
def hidden (h : FVec F S128x512 .f32) : FVec F S128x512 .bf16 :=
  concatenate S128x512 1 [⟨S128x128, decoded (lanes h 0)⟩, ⟨S128x128, decoded (lanes h 1)⟩,
    ⟨S128x128, decoded (lanes h 2)⟩, ⟨S128x128, decoded (lanes h 3)⟩] concatenates_S128x128_S128x128_S128x128_S128x128_S128x512_d1

/-- Half `k` of a chunk of hidden values. -/
def half (hd : FVec F S128x512 .bf16) (k : Fin 2) : FVec F S128x256 .bf16 :=
  extractStridedSlice S128x256 ![0, 256 * k.val] hd (slices_half k)

/-! ## Scale bytes -/

/-- The divisor `d`, or one where it is zero. -/
def divisor (d : BitVec 32) : BitVec 32 := Scalar.select (Scalar.cmpi .eq d 0#32) 1#32 d

/-- The lane number modulo four. -/
def laneMod4 : IVec S128x128 32 :=
  select
    (andi
      (xori (cmpi .slt (remsi lane (broadcast S128x128 (divisor 4#32))) (broadcast S128x128 0#32))
        (broadcastTo S128x128 (broadcast S128x128 (Scalar.cmpi .slt (divisor 4#32) 0#32)) broadcasts_S128x128_S128x128))
      (cmpi .ne (remsi lane (broadcast S128x128 (divisor 4#32))) (broadcast S128x128 0#32)))
    (addi (remsi lane (broadcast S128x128 (divisor 4#32))) (broadcast S128x128 (divisor 4#32)))
    (remsi lane (broadcast S128x128 (divisor 4#32)))

/-- The four scales of lane tile `t` placed at lanes `4 t .. 4 t + 3`, the other lanes as they were. -/
def place (out s : IVec S128x128 32) (t : Fin 12) : IVec S128x128 32 :=
  select (cmpi .eq (laneDiv 4#32) (broadcast S128x128 (BitVec.ofNat 32 t.val)))
    (dynamicGather 1 s (wrap (muli laneMod4 (broadcast S128x128 32#32)))) out

/-- The scale bytes of three chunks of hidden values. -/
def scaleBytes (h0 h1 h2 : FVec F S128x512 .f32) : IVec S128x48 8 :=
  trunci 8 (extractStridedSlice S128x48 ![0, 0]
    (place (place (place (place (place (place (place (place (place (place (place (place (broadcast S128x128 0#32)
      (scaleOf (lanes h0 0)) 0) (scaleOf (lanes h0 1)) 1) (scaleOf (lanes h0 2)) 2) (scaleOf (lanes h0 3)) 3)
      (scaleOf (lanes h1 0)) 4) (scaleOf (lanes h1 1)) 5) (scaleOf (lanes h1 2)) 6) (scaleOf (lanes h1 3)) 7)
      (scaleOf (lanes h2 0)) 8) (scaleOf (lanes h2 1)) 9) (scaleOf (lanes h2 2)) 10) (scaleOf (lanes h2 3)) 11)
    slices_S128x128_o0_0_S128x48) natLt_8_32

/-! ## Which half of the second-layer scales a point reads -/

/-- The expert number modulo two. -/
def mod2 (e : BitVec 32) : BitVec 32 :=
  Scalar.select
    (Scalar.andi (Scalar.xori (Scalar.cmpi .slt (Scalar.remsi e (divisor 2#32)) 0#32) (Scalar.cmpi .slt (divisor 2#32) 0#32))
      (Scalar.cmpi .ne (Scalar.remsi e (divisor 2#32)) 0#32))
    (Scalar.addi (Scalar.remsi e (divisor 2#32)) (divisor 2#32))
    (Scalar.remsi e (divisor 2#32))

/-- One when the expert number is congruent to `j` modulo two. -/
def isMod2 (e : BitVec 32) (j : BitVec 32) : BitVec 1 :=
  Scalar.cmpi .ne (Scalar.extui (Scalar.cmpi .eq (mod2 e) j) : BitVec 32) 0#32

end Cert.KernelIdeal.Moe
end
-- ==== Proof.Body.lean ====
/- The kernel function as loops over tiles: the same loads and stores in the same order as the printed function, each
   repeated stretch written once. `cc0_eq` says that the printed function is this program. -/
module

public import proofs.«01_k».proof.Proof.Values
public import Idealize.ShloMosaic.Lib.Pipeline.Regions

@[expose] public section

set_option maxRecDepth 16384

noncomputable section

namespace Cert.KernelIdeal.Moe

open Idealize.ShloMosaic Idealize.ShloMosaic.TcCoe Idealize.ShloMosaic.Scf Idealize.SL.Sem
open Cert.KernelIdeal
open Facts₀ Facts

variable {F : FTy → Type} [FloatOps F]

/-! ## Side conditions of the tiles, at a variable position -/

theorem inb_x (t : Fin 24) : ∀ a, (![0, 128 * t.val] : Fin 2 → Nat) a + S128x128.size a ≤ S128x3072.size a := by
  revert t; decide
theorem inb_w1 (c : Fin 3) (k : Fin 12) :
    ∀ a, (![256 * k.val, 512 * c.val] : Fin 2 → Nat) a + S256x512.size a ≤ S3072x1536.size a := by revert c k; decide
theorem inb_s1 (c : Fin 3) (k : Fin 12) :
    ∀ a, (![8 * k.val, 512 * c.val] : Fin 2 → Nat) a + S8x512.size a ≤ S96x1536.size a := by revert c k; decide
theorem inb_xb (k : Fin 12) : ∀ a, (![0, 256 * k.val] : Fin 2 → Nat) a + S128x256.size a ≤ S128x3072.size a := by
  revert k; decide
theorem inb_hc (c : Fin 3) (t : Fin 4) :
    ∀ a, (![0, 512 * c.val + 128 * t.val] : Fin 2 → Nat) a + S128x128.size a ≤ S128x1536.size a := by revert c t; decide
theorem inb_w2 (c : Fin 3) (n : Fin 6) (k : Fin 2) :
    ∀ a, (![512 * c.val + 256 * k.val, 512 * n.val] : Fin 2 → Nat) a + S256x512.size a ≤ S1536x3072.size a := by
  revert c n k; decide
theorem inb_s2 (c : Fin 3) (n : Fin 6) (k : Fin 2) :
    ∀ a, (![16 * c.val + 8 * k.val, 512 * n.val] : Fin 2 → Nat) a + S8x512.size a ≤ S48x3072.size a := by
  revert c n k; decide
theorem inb_o (n : Fin 6) : ∀ a, (![0, 512 * n.val] : Fin 2 → Nat) a + S128x512.size a ≤ S128x3072.size a := by
  revert n; decide
theorem packed_x (t : Fin 24) :
    (Rect.unit (s := S128x3072) ![0, 128 * t.val] S128x128.size (inb_x t)).PackedRows (EltTy.packing .bf16) := by
  revert t; decide
theorem packed_hc (c : Fin 3) (t : Fin 4) :
    (Rect.unit (s := S128x1536) ![0, 512 * c.val + 128 * t.val] S128x128.size (inb_hc c t)).PackedRows (EltTy.packing .fp8e4m3) := by
  revert c t; decide
theorem packed_o (n : Fin 6) :
    (Rect.unit (s := S128x3072) ![0, 512 * n.val] S128x512.size (inb_o n)).PackedRows (EltTy.packing .bf16) := by
  revert n; decide

/-! ## The stretches -/

/-- The expert number of the point, read from the table. -/
def bExpert (i : grid0.Coords) (arg1 : Memref sig .tc .smem S48 .i32) : Prog (TpuEff nD τ sig (Elt F) Λ₀ .tc) (Elt F .i32) :=
  smemLoad arg1 (Rect.unit (s := S48) (k0_off1 i) S1.size (k0_off1_inb i)) numel1_S1 rfl

/-- The first layer's scale words, made from its scale bytes. -/
def bWords1 (arg5 : Memref sig .tc .vmem S96x1536 .i8) (arg11 : Memref sig .tc .vmem S96x1536 .i32) :
    Prog (TpuEff nD τ sig (Elt F) Λ₀ .tc) PUnit := do
  let v2 : Vec F S96x1536 .i8 ← Prog.lift (.load arg5 (Rect.unit (s := S96x1536) ![0, 0] S96x1536.size inb_S96x1536_S96x1536_0_0).toLoadRect (View.loadsAt_vmem h_S96x1536))
  let _v9 : Vec F S96x1536 .i32 ← Prog.lift (.load arg11 (Rect.unit (s := S96x1536) ![0, 0] S96x1536.size inb_S96x1536_S96x1536_0_0).toLoadRect (View.loadsAt_vmem h_S96x1536))
  Prog.lift (.store arg11 (Rect.unit (s := S96x1536) ![0, 0] S96x1536.size inb_S96x1536_S96x1536_0_0) (shapeCast S96x1536 (words1 v2) shapeCasts_S96x1536_S96x1536) Finset.univ (View.stores_vmem_bits_univ h_S96x1536 rfl) (.inl rfl))

/-- The second layer's scale words, made from rows `o` of the pair of experts' scale bytes. -/
def bWords2 (arg7 : Memref sig .tc .vmem S96x3072 .i8) (arg12 : Memref sig .tc .vmem S48x3072 .i32)
    (o : Fin 2 → Nat) (ho : S96x3072.Slices o S48x3072) : Prog (TpuEff nD τ sig (Elt F) Λ₀ .tc) PUnit := do
  let v : Vec F S96x3072 .i8 ← Prog.lift (.load arg7 (Rect.unit (s := S96x3072) ![0, 0] S96x3072.size inb_S96x3072_S96x3072_0_0).toLoadRect (View.loadsAt_vmem h_S96x3072))
  let _v : Vec F S48x3072 .i32 ← Prog.lift (.load arg12 (Rect.unit (s := S48x3072) ![0, 0] S48x3072.size inb_S48x3072_S48x3072_0_0).toLoadRect (View.loadsAt_vmem h_S48x3072))
  Prog.lift (.store arg12 (Rect.unit (s := S48x3072) ![0, 0] S48x3072.size inb_S48x3072_S48x3072_0_0) (shapeCast S48x3072 (extractStridedSlice S48x3072 o (words2 v) ho) shapeCasts_S48x3072_S48x3072) Finset.univ (View.stores_vmem_bits_univ h_S48x3072 rfl) (.inl rfl))

/-- The second layer's scale words of an even expert: the first half of the pair's scale bytes. -/
def bEven (arg7 : Memref sig .tc .vmem S96x3072 .i8) (arg12 : Memref sig .tc .vmem S48x3072 .i32) (b : BitVec 1) :
    Prog (TpuEff nD τ sig (Elt F) Λ₀ .tc) PUnit :=
  if b = 1#1 then bWords2 arg7 arg12 ![0, 0] slices_S96x3072_o0_0_S48x3072 else pure ⟨⟩

/-- The second layer's scale words of an odd expert: the second half of the pair's scale bytes. -/
def bOdd (arg7 : Memref sig .tc .vmem S96x3072 .i8) (arg12 : Memref sig .tc .vmem S48x3072 .i32) (b : BitVec 1) :
    Prog (TpuEff nD τ sig (Elt F) Λ₀ .tc) PUnit :=
  if b = 1#1 then bWords2 arg7 arg12 ![48, 0] slices_S96x3072_o48_0_S48x3072 else pure ⟨⟩

/-- The scales of the block of activations. -/
def bScales (arg3 : Memref sig .tc .vmem S128x96 .i8) : Prog (TpuEff nD τ sig (Elt F) Λ₀ .tc) (Vec F S128x96 .i8) :=
  Prog.lift (.load arg3 (Rect.unit (s := S128x96) ![0, 0] S128x96.size inb_S128x96_S128x96_0_0).toLoadRect (View.loadsAt_vmem h_S128x96))

/-- One lane tile of the activations dequantised. -/
def bTile (arg2 : Memref sig .tc .vmem S128x3072 .fp8e4m3) (arg13 : Memref sig .tc .vmem S128x3072 .bf16)
    (harg13 : arg13.IsWhole) (sc : FVec F S128x128 .f32) (t : Fin 24) : Prog (TpuEff nD τ sig (Elt F) Λ₀ .tc) PUnit := do
  let v80 : Vec F S128x128 .fp8e4m3 ← Prog.lift (.load arg2 (Rect.unit (s := S128x3072) ![0, 128 * t.val] S128x128.size (inb_x t)).toLoadRect (View.loadsAt_vmem h_S128x128))
  let _v85 : Vec F S128x128 .bf16 ← Prog.lift (.load arg13 (Rect.unit (s := S128x3072) ![0, 128 * t.val] S128x128.size (inb_x t)).toLoadRect (View.loadsAt_vmem h_S128x128))
  Prog.lift (.store arg13 (Rect.unit (s := S128x3072) ![0, 128 * t.val] S128x128.size (inb_x t)) (shapeCast S128x128 (xtile sc t v80) shapeCasts_S128x128_S128x128) Finset.univ (View.stores_vmem h_S128x128 (harg13.storeExact_slice rfl _ (packed_x t)) (fun _ => rfl)) (.inl rfl))

/-- A list of lane tiles of the activations dequantised, in order. -/
def bTiles (arg2 : Memref sig .tc .vmem S128x3072 .fp8e4m3) (arg13 : Memref sig .tc .vmem S128x3072 .bf16)
    (harg13 : arg13.IsWhole) (sc : FVec F S128x128 .f32) : List (Fin 24) → Prog (TpuEff nD τ sig (Elt F) Λ₀ .tc) PUnit
  | [] => pure ⟨⟩
  | t :: ts => do
    bTile arg2 arg13 harg13 sc t
    bTiles arg2 arg13 harg13 sc ts

/-- One step of the first matrix product: columns `512 c ..`, contraction `256 k ..`. -/
def bDot1 (arg4 : Memref sig .tc .vmem S3072x1536 .fp8e4m3) (arg11 : Memref sig .tc .vmem S96x1536 .i32)
    (arg13 : Memref sig .tc .vmem S128x3072 .bf16) (c : Fin 3) (a : FVec F S128x512 .f32) (k : Fin 12) :
    Prog (TpuEff nD τ sig (Elt F) Λ₀ .tc) (FVec F S128x512 .f32) := do
  let w : Vec F S256x512 .fp8e4m3 ← Prog.lift (.load arg4 (Rect.unit (s := S3072x1536) ![256 * k.val, 512 * c.val] S256x512.size (inb_w1 c k)).toLoadRect (View.loadsAt_vmem h_S256x512))
  let s : Vec F S8x512 .i32 ← Prog.lift (.load arg11 (Rect.unit (s := S96x1536) ![8 * k.val, 512 * c.val] S8x512.size (inb_s1 c k)).toLoadRect (View.loadsAt_vmem h_S8x512))
  let x : Vec F S128x256 .bf16 ← Prog.lift (.load arg13 (Rect.unit (s := S128x3072) ![0, 256 * k.val] S128x256.size (inb_xb k)).toLoadRect (View.loadsAt_vmem h_S128x256))
  pure (mac a x w s)

/-- The steps of a list, in order, from the running sum `a`. -/
def bDots1 (arg4 : Memref sig .tc .vmem S3072x1536 .fp8e4m3) (arg11 : Memref sig .tc .vmem S96x1536 .i32)
    (arg13 : Memref sig .tc .vmem S128x3072 .bf16) (c : Fin 3) :
    FVec F S128x512 .f32 → List (Fin 12) → Prog (TpuEff nD τ sig (Elt F) Λ₀ .tc) (FVec F S128x512 .f32)
  | a, [] => pure a
  | a, k :: ks => do
    let a' ← bDot1 arg4 arg11 arg13 c a k
    bDots1 arg4 arg11 arg13 c a' ks

/-- The codes of lane tile `t` of chunk `c` stored. -/
def bCode (arg9 : Memref sig .tc .vmem S128x1536 .fp8e4m3) (harg9 : arg9.IsWhole) (c : Fin 3) (h : FVec F S128x512 .f32)
    (t : Fin 4) : Prog (TpuEff nD τ sig (Elt F) Λ₀ .tc) PUnit := do
  let _v : Vec F S128x128 .fp8e4m3 ← Prog.lift (.load arg9 (Rect.unit (s := S128x1536) ![0, 512 * c.val + 128 * t.val] S128x128.size (inb_hc c t)).toLoadRect (View.loadsAt_vmem h_S128x128))
  Prog.lift (.store arg9 (Rect.unit (s := S128x1536) ![0, 512 * c.val + 128 * t.val] S128x128.size (inb_hc c t)) (codesOf (lanes h t)) Finset.univ (View.stores_vmem h_S128x128 (harg9.storeExact_slice rfl _ (packed_hc c t)) (fun _ => rfl)) (.inl rfl))

/-- The codes of a list of lane tiles stored, in order. -/
def bCodes (arg9 : Memref sig .tc .vmem S128x1536 .fp8e4m3) (harg9 : arg9.IsWhole) (c : Fin 3) (h : FVec F S128x512 .f32) :
    List (Fin 4) → Prog (TpuEff nD τ sig (Elt F) Λ₀ .tc) PUnit
  | [] => pure ⟨⟩
  | t :: ts => do
    bCode arg9 harg9 c h t
    bCodes arg9 harg9 c h ts

/-- One step of the second matrix product: chunk `c`, columns `512 n ..`, half `k` of the chunk. -/
def bDot2 (arg6 : Memref sig .tc .vmem S1536x3072 .fp8e4m3) (arg12 : Memref sig .tc .vmem S48x3072 .i32)
    (c : Fin 3) (n : Fin 6) (hd : FVec F S128x512 .bf16) (a : FVec F S128x512 .f32) (k : Fin 2) :
    Prog (TpuEff nD τ sig (Elt F) Λ₀ .tc) (FVec F S128x512 .f32) := do
  let w : Vec F S256x512 .fp8e4m3 ← Prog.lift (.load arg6 (Rect.unit (s := S1536x3072) ![512 * c.val + 256 * k.val, 512 * n.val] S256x512.size (inb_w2 c n k)).toLoadRect (View.loadsAt_vmem h_S256x512))
  let s : Vec F S8x512 .i32 ← Prog.lift (.load arg12 (Rect.unit (s := S48x3072) ![16 * c.val + 8 * k.val, 512 * n.val] S8x512.size (inb_s2 c n k)).toLoadRect (View.loadsAt_vmem h_S8x512))
  pure (mac a (half hd k) w s)

/-- Chunk `c`'s part of the second product at columns `512 n ..`. -/
def bPart (arg6 : Memref sig .tc .vmem S1536x3072 .fp8e4m3) (arg12 : Memref sig .tc .vmem S48x3072 .i32)
    (c : Fin 3) (n : Fin 6) (hd : FVec F S128x512 .bf16) : Prog (TpuEff nD τ sig (Elt F) Λ₀ .tc) (FVec F S128x512 .f32) := do
  let a ← bDot2 arg6 arg12 c n hd zero512 0
  bDot2 arg6 arg12 c n hd a 1

/-- Columns `512 n ..` of the accumulator loaded. -/
def bAcc (arg14 : Memref sig .tc .vmem S128x3072 .f32) (n : Fin 6) :
    Prog (TpuEff nD τ sig (Elt F) Λ₀ .tc) (Vec F S128x512 .f32) :=
  Prog.lift (.load arg14 (Rect.unit (s := S128x3072) ![0, 512 * n.val] S128x512.size (inb_o n)).toLoadRect (View.loadsAt_vmem h_S128x512))

/-- Columns `512 n ..` of the accumulator stored. -/
def bSetAcc (arg14 : Memref sig .tc .vmem S128x3072 .f32) (n : Fin 6) (v : FVec F S128x512 .f32) :
    Prog (TpuEff nD τ sig (Elt F) Λ₀ .tc) PUnit := do
  let _v ← bAcc arg14 n
  Prog.lift (.store arg14 (Rect.unit (s := S128x3072) ![0, 512 * n.val] S128x512.size (inb_o n)) (shapeCast S128x512 v shapeCasts_S128x512_S128x512) Finset.univ (View.stores_vmem_bits_univ h_S128x512 rfl) (.inl rfl))

/-- Chunk 0's parts stored in the accumulator, over a list of columns. -/
def bFirst (arg6 : Memref sig .tc .vmem S1536x3072 .fp8e4m3) (arg12 : Memref sig .tc .vmem S48x3072 .i32)
    (arg14 : Memref sig .tc .vmem S128x3072 .f32) (hd : FVec F S128x512 .bf16) :
    List (Fin 6) → Prog (TpuEff nD τ sig (Elt F) Λ₀ .tc) PUnit
  | [] => pure ⟨⟩
  | n :: ns => do
    let o ← bPart arg6 arg12 0 n hd
    bSetAcc arg14 n o
    bFirst arg6 arg12 arg14 hd ns

/-- Chunk 1's parts added to the accumulator, over a list of columns. -/
def bSecond (arg6 : Memref sig .tc .vmem S1536x3072 .fp8e4m3) (arg12 : Memref sig .tc .vmem S48x3072 .i32)
    (arg14 : Memref sig .tc .vmem S128x3072 .f32) (hd : FVec F S128x512 .bf16) :
    List (Fin 6) → Prog (TpuEff nD τ sig (Elt F) Λ₀ .tc) PUnit
  | [] => pure ⟨⟩
  | n :: ns => do
    let o ← bPart arg6 arg12 1 n hd
    let acc ← bAcc arg14 n
    bSetAcc arg14 n (addf acc o)
    bSecond arg6 arg12 arg14 hd ns

/-- Chunk 2's parts added to the accumulator and stored in the result, over a list of columns. -/
def bThird (arg6 : Memref sig .tc .vmem S1536x3072 .fp8e4m3) (arg12 : Memref sig .tc .vmem S48x3072 .i32)
    (arg14 : Memref sig .tc .vmem S128x3072 .f32) (arg8 : Memref sig .tc .vmem S128x3072 .bf16) (harg8 : arg8.IsWhole)
    (hd : FVec F S128x512 .bf16) : List (Fin 6) → Prog (TpuEff nD τ sig (Elt F) Λ₀ .tc) PUnit
  | [] => pure ⟨⟩
  | n :: ns => do
    let o ← bPart arg6 arg12 2 n hd
    let acc ← bAcc arg14 n
    let _v : Vec F S128x512 .bf16 ← Prog.lift (.load arg8 (Rect.unit (s := S128x3072) ![0, 512 * n.val] S128x512.size (inb_o n)).toLoadRect (View.loadsAt_vmem h_S128x512))
    Prog.lift (.store arg8 (Rect.unit (s := S128x3072) ![0, 512 * n.val] S128x512.size (inb_o n)) (truncf .bf16 (addf acc o) bitsLt_bf16_f32) Finset.univ (View.stores_vmem h_S128x512 (harg8.storeExact_slice rfl _ (packed_o n)) (fun _ => rfl)) (.inl rfl))
    bThird arg6 arg12 arg14 arg8 harg8 hd ns

/-- The scale bytes stored. -/
def bBytes (arg10 : Memref sig .tc .vmem S128x48 .i8) (harg10 : arg10.IsWhole) (b : IVec S128x48 8) :
    Prog (TpuEff nD τ sig (Elt F) Λ₀ .tc) PUnit := do
  let _v : Vec F S128x48 .i8 ← Prog.lift (.load arg10 (Rect.unit (s := S128x48) ![0, 0] S128x48.size inb_S128x48_S128x48_0_0).toLoadRect (View.loadsAt_vmem h_S128x48))
  Prog.lift (.store arg10 (Rect.unit (s := S128x48) ![0, 0] S128x48.size inb_S128x48_S128x48_0_0) b Finset.univ (View.stores_vmem h_S128x48 (harg10.storeExact_slice rfl _ packedi8_S128x48_S128x48_0_0) (fun _ => rfl)) (.inl rfl))

/-- Chunk `c` of the hidden values, its codes stored. -/
def bHidden (arg4 : Memref sig .tc .vmem S3072x1536 .fp8e4m3) (arg9 : Memref sig .tc .vmem S128x1536 .fp8e4m3) (harg9 : arg9.IsWhole)
    (arg11 : Memref sig .tc .vmem S96x1536 .i32) (arg13 : Memref sig .tc .vmem S128x3072 .bf16) (c : Fin 3) :
    Prog (TpuEff nD τ sig (Elt F) Λ₀ .tc) (FVec F S128x512 .f32) := do
  let a ← bDots1 arg4 arg11 arg13 c zero512 [0, 1, 2, 3, 4, 5, 6, 7, 8, 9, 10, 11]
  bCodes arg9 harg9 c (gelu a) [0, 1, 2, 3]
  pure (gelu a)

/-- The kernel function, as loops. -/
def body (i : grid0.Coords) (arg1 : Memref sig .tc .smem S48 .i32)
    (arg2 : Memref sig .tc .vmem S128x3072 .fp8e4m3) (arg3 : Memref sig .tc .vmem S128x96 .i8)
    (arg4 : Memref sig .tc .vmem S3072x1536 .fp8e4m3) (arg5 : Memref sig .tc .vmem S96x1536 .i8)
    (arg6 : Memref sig .tc .vmem S1536x3072 .fp8e4m3) (arg7 : Memref sig .tc .vmem S96x3072 .i8)
    (arg8 : Memref sig .tc .vmem S128x3072 .bf16) (harg8 : arg8.IsWhole)
    (arg9 : Memref sig .tc .vmem S128x1536 .fp8e4m3) (harg9 : arg9.IsWhole)
    (arg10 : Memref sig .tc .vmem S128x48 .i8) (harg10 : arg10.IsWhole)
    (arg11 : Memref sig .tc .vmem S96x1536 .i32) (arg12 : Memref sig .tc .vmem S48x3072 .i32)
    (arg13 : Memref sig .tc .vmem S128x3072 .bf16) (harg13 : arg13.IsWhole)
    (arg14 : Memref sig .tc .vmem S128x3072 .f32) : Prog (TpuEff nD τ sig (Elt F) Λ₀ .tc) PUnit := do
  let e ← bExpert (F := F) i arg1
  bWords1 arg5 arg11
  bEven arg7 arg12 (isMod2 e 0#32)
  bOdd arg7 arg12 (isMod2 e 1#32)
  let s ← bScales arg3
  bTiles arg2 arg13 harg13 (xscale s) [0, 1, 2, 3, 4, 5, 6, 7, 8, 9, 10, 11, 12, 13, 14, 15, 16, 17, 18, 19, 20, 21, 22, 23]
  let h0 ← bHidden arg4 arg9 harg9 arg11 arg13 0
  bFirst arg6 arg12 arg14 (hidden h0) [0, 1, 2, 3, 4, 5]
  let h1 ← bHidden arg4 arg9 harg9 arg11 arg13 1
  bSecond arg6 arg12 arg14 (hidden h1) [0, 1, 2, 3, 4, 5]
  let h2 ← bHidden arg4 arg9 harg9 arg11 arg13 2
  bThird arg6 arg12 arg14 arg8 harg8 (hidden h2) [0, 1, 2, 3, 4, 5]
  bBytes arg10 harg10 (scaleBytes h0 h1 h2)

/-- The printed function's first part: the expert number, the first layer's scale words, an even expert's second ones. -/
theorem part1_eq (i : grid0.Coords) (arg1 : Memref sig .tc .smem S48 .i32) (harg1 : arg1.IsWhole)
    (arg2 : Memref sig .tc .vmem S128x3072 .fp8e4m3) (harg2 : arg2.IsWhole) (arg3 : Memref sig .tc .vmem S128x96 .i8)
    (harg3 : arg3.IsWhole) (arg4 : Memref sig .tc .vmem S3072x1536 .fp8e4m3) (harg4 : arg4.IsWhole)
    (arg5 : Memref sig .tc .vmem S96x1536 .i8) (harg5 : arg5.IsWhole) (arg6 : Memref sig .tc .vmem S1536x3072 .fp8e4m3)
    (harg6 : arg6.IsWhole) (arg7 : Memref sig .tc .vmem S96x3072 .i8) (harg7 : arg7.IsWhole)
    (arg8 : Memref sig .tc .vmem S128x3072 .bf16) (harg8 : arg8.IsWhole) (arg9 : Memref sig .tc .vmem S128x1536 .fp8e4m3)
    (harg9 : arg9.IsWhole) (arg10 : Memref sig .tc .vmem S128x48 .i8) (harg10 : arg10.IsWhole)
    (arg11 : Memref sig .tc .vmem S96x1536 .i32) (harg11 : arg11.IsWhole) (arg12 : Memref sig .tc .vmem S48x3072 .i32)
    (harg12 : arg12.IsWhole) (arg13 : Memref sig .tc .vmem S128x3072 .bf16) (harg13 : arg13.IsWhole)
    (arg14 : Memref sig .tc .vmem S128x3072 .f32) (harg14 : arg14.IsWhole) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14
      = bExpert (F := F) i arg1 >>= fun e => bWords1 arg5 arg11 >>= fun _ => bEven arg7 arg12 (isMod2 e 0#32) >>= fun _ =>
          pure (Scalar.cmpi .eq (mod2 e) 1#32) := by
  have h : k0_part1 (F := F) i arg1 harg1 arg2 harg2 arg3 harg3 arg4 harg4 arg5 harg5 arg6 harg6 arg7 harg7 arg8 harg8 arg9 harg9 arg10 harg10 arg11 harg11 arg12 harg12 arg13 harg13 arg14 harg14 = (do
      let e ← bExpert (F := F) i arg1
      bWords1 arg5 arg11
      if isMod2 e 0#32 = 1#1 then bWords2 arg7 arg12 ![0, 0] slices_S96x3072_o0_0_S48x3072 else pure ⟨⟩
      pure (Scalar.cmpi .eq (mod2 e) 1#32)) := by chain_rfl
  rw [h]
  refine congrArg _ (funext fun e => congrArg _ (funext fun _ => ?_))
  unfold bEven
  split <;> rfl

/-- The printed function's second part: an odd expert's second scale words, and the activations' scales. -/
theorem part2_eq (i : grid0.Coords) (arg1 : Memref sig .tc .smem S48 .i32) (harg1 : arg1.IsWhole)
    (arg2 : Memref sig .tc .vmem S128x3072 .fp8e4m3) (harg2 : arg2.IsWhole) (arg3 : Memref sig .tc .vmem S128x96 .i8)
    (harg3 : arg3.IsWhole) (arg4 : Memref sig .tc .vmem S3072x1536 .fp8e4m3) (harg4 : arg4.IsWhole)
    (arg5 : Memref sig .tc .vmem S96x1536 .i8) (harg5 : arg5.IsWhole) (arg6 : Memref sig .tc .vmem S1536x3072 .fp8e4m3)
    (harg6 : arg6.IsWhole) (arg7 : Memref sig .tc .vmem S96x3072 .i8) (harg7 : arg7.IsWhole)
    (arg8 : Memref sig .tc .vmem S128x3072 .bf16) (harg8 : arg8.IsWhole) (arg9 : Memref sig .tc .vmem S128x1536 .fp8e4m3)
    (harg9 : arg9.IsWhole) (arg10 : Memref sig .tc .vmem S128x48 .i8) (harg10 : arg10.IsWhole)
    (arg11 : Memref sig .tc .vmem S96x1536 .i32) (harg11 : arg11.IsWhole) (arg12 : Memref sig .tc .vmem S48x3072 .i32)
    (harg12 : arg12.IsWhole) (arg13 : Memref sig .tc .vmem S128x3072 .bf16) (harg13 : arg13.IsWhole)
    (arg14 : Memref sig .tc .vmem S128x3072 .f32) (harg14 : arg14.IsWhole) (b : BitVec 1) :
    k0_part2 (F := F) i arg1 harg1 arg2 harg2 arg3 harg3 arg4 harg4 arg5 harg5 arg6 harg6 arg7 harg7 arg8 harg8 arg9 harg9 arg10 harg10 arg11 harg11 arg12 harg12 arg13 harg13 arg14 harg14 b
      = bOdd arg7 arg12 (Scalar.cmpi .ne (Scalar.extui b : BitVec 32) 0#32) >>= fun _ => bScales arg3 >>= fun s =>
          pure ⟨lane, xscale s, xscaleTile (xscale s) 0⟩ := by
  have h : k0_part2 (F := F) i arg1 harg1 arg2 harg2 arg3 harg3 arg4 harg4 arg5 harg5 arg6 harg6 arg7 harg7 arg8 harg8 arg9 harg9 arg10 harg10 arg11 harg11 arg12 harg12 arg13 harg13 arg14 harg14 b = (do
      if (Scalar.cmpi .ne (Scalar.extui b : BitVec 32) 0#32) = 1#1 then bWords2 arg7 arg12 ![48, 0] slices_S96x3072_o48_0_S48x3072 else pure ⟨⟩
      let s ← bScales arg3
      pure ⟨lane, xscale s, xscaleTile (xscale s) 0⟩) := by chain_rfl
  rw [h]
  unfold bOdd
  split <;> rfl

set_option maxHeartbeats 0 in
/-- The printed kernel function is the loops. -/
theorem cc0_eq (i : grid0.Coords) (arg1 : Memref sig .tc .smem S48 .i32) (harg1 : arg1.IsWhole)
    (arg2 : Memref sig .tc .vmem S128x3072 .fp8e4m3) (harg2 : arg2.IsWhole) (arg3 : Memref sig .tc .vmem S128x96 .i8)
    (harg3 : arg3.IsWhole) (arg4 : Memref sig .tc .vmem S3072x1536 .fp8e4m3) (harg4 : arg4.IsWhole)
    (arg5 : Memref sig .tc .vmem S96x1536 .i8) (harg5 : arg5.IsWhole) (arg6 : Memref sig .tc .vmem S1536x3072 .fp8e4m3)
    (harg6 : arg6.IsWhole) (arg7 : Memref sig .tc .vmem S96x3072 .i8) (harg7 : arg7.IsWhole)
    (arg8 : Memref sig .tc .vmem S128x3072 .bf16) (harg8 : arg8.IsWhole) (arg9 : Memref sig .tc .vmem S128x1536 .fp8e4m3)
    (harg9 : arg9.IsWhole) (arg10 : Memref sig .tc .vmem S128x48 .i8) (harg10 : arg10.IsWhole)
    (arg11 : Memref sig .tc .vmem S96x1536 .i32) (harg11 : arg11.IsWhole) (arg12 : Memref sig .tc .vmem S48x3072 .i32)
    (harg12 : arg12.IsWhole) (arg13 : Memref sig .tc .vmem S128x3072 .bf16) (harg13 : arg13.IsWhole)
    (arg14 : Memref sig .tc .vmem S128x3072 .f32) (harg14 : arg14.IsWhole) :
    cc0_moe_ffn_mxfp8 (F := F) i arg1 harg1 arg2 harg2 arg3 harg3 arg4 harg4 arg5 harg5 arg6 harg6 arg7 harg7 arg8 harg8
      arg9 harg9 arg10 harg10 arg11 harg11 arg12 harg12 arg13 harg13 arg14 harg14
      = body i arg1 arg2 arg3 arg4 arg5 arg6 arg7 arg8 harg8 arg9 harg9 arg10 harg10 arg11 arg12 arg13 harg13 arg14 := by
  refine (show _ = (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 >>= fun b => k0_part2 (F := F) i arg1 harg1 arg2 harg2 arg3 harg3 arg4 harg4 arg5 harg5 arg6 harg6 arg7 harg7 arg8 harg8 arg9 harg9 arg10 harg10 arg11 harg11 arg12 harg12 arg13 harg13 arg14 harg14 b >>= _) >>= _ from rfl).trans ?_
  simp only [part1_eq, part2_eq, bind_assoc, pure_bind]
  chain_rfl

end Cert.KernelIdeal.Moe
end
-- ==== Proof.Rules.lean ====
/- Loads and stores of whole-buffer ownership: a load reads a window of what the buffer holds, a store puts its payload
   over a window, and a program's precondition is carried by a continuation. -/
module

public import proofs.«01_k».proof.Proof.Body
public import proofs.«01_k».proof.Proof.Gen.KernelIdeal.Launch
public import Idealize.ShloMosaic.Lib.VecWindow
public import Idealize.ShloMosaic.Lib.Pipeline.FrameBody
public import Idealize.ShloMosaic.Lib.Ring
public import Idealize.ShloMosaic.Lib.Tactic

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ (UR sig nD τ) ℕ

/-- The weakest precondition of a program of the body, run by core `c`. -/
abbrev run {α : Type} (c : Dev nD) (E : Set ℕ) (p : Prog (TpuEff nD τ sig (Elt F) Λ₀ .tc) α) (K : α → sProp 𝕄) : sProp 𝕄 :=
  wp frame (wpE (defs₀ (F := F)) Variants.none (c : Thread nD τ) none) E p K

theorem run_pure {α : Type} (c : Dev nD) (E : Set ℕ) (a : α) (K : α → sProp 𝕄) : K a ⊢ run c E (pure a) K :=
  le_wp_ret _ _ _ a K

theorem run_bind {α β : Type} (c : Dev nD) (E : Set ℕ) (p : Prog (TpuEff nD τ sig (Elt F) Λ₀ .tc) α)
    (k : α → Prog (TpuEff nD τ sig (Elt F) Λ₀ .tc) β) (K : β → sProp 𝕄) :
    run c E (p >>= k) K = run c E p (fun a => run c E (k a) K) := wp_bind _ _ _ _ _ _

/-- A load of a unit-stride rectangle reads the window of what the buffer holds. -/
theorem run_load (c : Dev nD) (E : Set ℕ) {s : Shape} {e : EltTy} (M : Memref sig .tc .vmem s e) (X : s.Idx → Elt F e)
    {off size : Fin s.rank → ℕ} (inb : ∀ a, off a + size a ≤ s.size a) {hl : M.view.LoadsAt (Rect.unit off size inb).toLoadRect}
    (K : ((Rect.unit off size inb).toLoadRect.shape.Idx → Elt F e) → sProp 𝕄) :
    iprop(owns (c : Thread nD τ) M fullShare X ∗ (owns (c : Thread nD τ) M fullShare X -∗ K (VecWindow.window X off size inb)))
      ⊢ run c E (Prog.lift (.load M (Rect.unit off size inb).toLoadRect hl)) K := by
  unfold owns
  iintro ⟨⟨%f, %hf, H⟩, Hk⟩
  subst hf
  iapply wp_load (m := M) (r := (Rect.unit off size inb).toLoadRect) (S := M.view.set) (f := f) Variants.none (c : Thread nD τ) none E (M.view.setOn_subset_set _) $$ H
  iintro H
  iapply run_pure
  rw [View.readAt_unit M.view f inb rfl inb]
  iapply Hk
  iexists f
  isplitr
  · ipureintro; rfl
  iexact H

/-- A store over a unit-stride rectangle puts the payload over that window. -/
theorem run_store (c : Dev nD) (E : Set ℕ) {s : Shape} {e : EltTy} (M : Memref sig .tc .vmem s e) (X : s.Idx → Elt F e)
    {off size : Fin s.rank → ℕ} (inb : ∀ a, off a + size a ≤ s.size a) (w : (Rect.unit off size inb).shape.Idx → Elt F e)
    {hx : (M.access (Rect.unit off size inb)).Stores Finset.univ}
    {hm : Finset.univ = Finset.univ ∨ ∀ a, (Rect.unit off size inb).stride a = 1} (K : PUnit → sProp 𝕄) :
    iprop(owns (c : Thread nD τ) M fullShare X ∗ (owns (c : Thread nD τ) M fullShare (VecWindow.put X off size w) -∗ K ⟨⟩))
      ⊢ run c E (Prog.lift (.store M (Rect.unit off size inb) w Finset.univ hx hm)) K := by
  unfold owns
  iintro ⟨⟨%f, %hf, H⟩, Hk⟩
  subst hf
  iapply wp_store_writes₀ (m := M) (r := Rect.unit off size inb) (w := w) (S := M.view.set) (f := f) Variants.none (c : Thread nD τ) none E (M.view.set_slice_subset _) $$ H
  iintro H
  iapply run_pure
  iapply Hk
  iexists _
  isplitr
  · ipureintro
    exact (View.read_writes_cons_put M.view f inb w [] rfl)
  iexact H

end Cert.KernelIdeal.Moe
end
-- ==== Proof.BodyValues.lean ====
/- What one grid point leaves in its buffers, as functions of the blocks it loads: the scale words, the dequantised
   activations, the three chunks of hidden values with their codes and scale bytes, and the block of the result. -/
module

public import proofs.«01_k».proof.Proof.Body
public import Idealize.ShloMosaic.Lib.VecWindow
public import Idealize.ShloMosaic.Lib.Pointwise

@[expose] public section

set_option maxRecDepth 16384

noncomputable section

namespace Cert.KernelIdeal.Moe

open Idealize.ShloMosaic Idealize.ShloMosaic.TcCoe Idealize.ShloMosaic.Scf
open Cert.KernelIdeal
open Facts₀ Facts

variable {F : FTy → Type} [FloatOps F]

/-! ## Tiles of buffers -/

/-- Lane tile `t` (128 lanes) of a 3072-lane block. -/
def tile128 {α : Type} (X : S128x3072.Idx → α) (t : Fin 24) : S128x128.Idx → α :=
  VecWindow.window X ![0, 128 * t.val] S128x128.size (inb_x t)
/-- Columns `256 k ..` of a 3072-lane block. -/
def tile256 {α : Type} (X : S128x3072.Idx → α) (k : Fin 12) : S128x256.Idx → α :=
  VecWindow.window X ![0, 256 * k.val] S128x256.size (inb_xb k)
/-- Columns `512 n ..` of a 3072-lane block. -/
def tile512 {α : Type} (X : S128x3072.Idx → α) (n : Fin 6) : S128x512.Idx → α :=
  VecWindow.window X ![0, 512 * n.val] S128x512.size (inb_o n)
/-- Lane tile `t` of chunk `c` of the codes. -/
def tileCode {α : Type} (X : S128x1536.Idx → α) (c : Fin 3) (t : Fin 4) : S128x128.Idx → α :=
  VecWindow.window X ![0, 512 * c.val + 128 * t.val] S128x128.size (inb_hc c t)
/-- First-layer weights: rows `256 k ..`, columns `512 c ..`. -/
def tileW1 {α : Type} (X : S3072x1536.Idx → α) (c : Fin 3) (k : Fin 12) : S256x512.Idx → α :=
  VecWindow.window X ![256 * k.val, 512 * c.val] S256x512.size (inb_w1 c k)
/-- Their scale words. -/
def tileS1 {α : Type} (X : S96x1536.Idx → α) (c : Fin 3) (k : Fin 12) : S8x512.Idx → α :=
  VecWindow.window X ![8 * k.val, 512 * c.val] S8x512.size (inb_s1 c k)
/-- Second-layer weights: half `k` of chunk `c`'s rows, columns `512 n ..`. -/
def tileW2 {α : Type} (X : S1536x3072.Idx → α) (c : Fin 3) (n : Fin 6) (k : Fin 2) : S256x512.Idx → α :=
  VecWindow.window X ![512 * c.val + 256 * k.val, 512 * n.val] S256x512.size (inb_w2 c n k)
/-- Their scale words. -/
def tileS2 {α : Type} (X : S48x3072.Idx → α) (c : Fin 3) (n : Fin 6) (k : Fin 2) : S8x512.Idx → α :=
  VecWindow.window X ![16 * c.val + 8 * k.val, 512 * n.val] S8x512.size (inb_s2 c n k)

/-! ## What the buffers hold -/

/-- The second-layer scale words of expert `e`, out of the bytes of the pair of experts it belongs to. -/
def words2Of (e : BitVec 32) (x5 : Vec F S96x3072 .i8) : IVec S48x3072 32 :=
  if isMod2 e 1#32 = 1#1 then extractStridedSlice S48x3072 ![48, 0] (words2 x5) slices_S96x3072_o48_0_S48x3072
  else extractStridedSlice S48x3072 ![0, 0] (words2 x5) slices_S96x3072_o0_0_S48x3072

/-- The dequantised activations, assembled of their lane tiles. -/
def activations (x0 : Vec F S128x3072 .fp8e4m3) (x1 : Vec F S128x96 .i8) : FVec F S128x3072 .bf16 := fun j =>
  xtile (xscale x1) ⟨(j 1).val / 128, by have h : (j 1).val < 3072 := (j 1).isLt; omega⟩
    (tile128 x0 ⟨(j 1).val / 128, by have h : (j 1).val < 3072 := (j 1).isLt; omega⟩)
    (ix2 (j 0) ⟨(j 1).val % 128, Nat.mod_lt _ (by decide)⟩)

/-- The steps of the first product over a list of tiles, from the running sum `a`. -/
def dots (XB : FVec F S128x3072 .bf16) (x2 : Vec F S3072x1536 .fp8e4m3) (W1 : IVec S96x1536 32) (c : Fin 3) :
    FVec F S128x512 .f32 → List (Fin 12) → FVec F S128x512 .f32 :=
  List.foldl fun a k => mac a (tile256 XB k) (tileW1 x2 c k) (tileS1 W1 c k)

/-- Chunk `c` of the hidden values. -/
def chunk (x0 : Vec F S128x3072 .fp8e4m3) (x1 : Vec F S128x96 .i8) (x2 : Vec F S3072x1536 .fp8e4m3) (x3 : Vec F S96x1536 .i8)
    (c : Fin 3) : FVec F S128x512 .f32 :=
  gelu (dots (activations x0 x1) x2 (words1 x3) c zero512 [0, 1, 2, 3, 4, 5, 6, 7, 8, 9, 10, 11])

/-- Chunk `c`'s part of the second product at columns `512 n ..`. -/
def part (x4 : Vec F S1536x3072 .fp8e4m3) (W2 : IVec S48x3072 32) (c : Fin 3) (n : Fin 6) (hd : FVec F S128x512 .bf16) :
    FVec F S128x512 .f32 :=
  mac (mac zero512 (half hd 0) (tileW2 x4 c n 0) (tileS2 W2 c n 0)) (half hd 1) (tileW2 x4 c n 1) (tileS2 W2 c n 1)

/-- The block of the result, assembled of its column tiles. -/
def resultBlock (x4 : Vec F S1536x3072 .fp8e4m3) (W2 : IVec S48x3072 32) (h : Fin 3 → FVec F S128x512 .f32) :
    FVec F S128x3072 .bf16 := fun j =>
  let n : Fin 6 := ⟨(j 1).val / 512, by have h : (j 1).val < 3072 := (j 1).isLt; omega⟩
  truncf .bf16 (addf (addf (part x4 W2 0 n (hidden (h 0))) (part x4 W2 1 n (hidden (h 1)))) (part x4 W2 2 n (hidden (h 2))))
    bitsLt_bf16_f32 (ix2 (j 0) ⟨(j 1).val % 512, Nat.mod_lt _ (by decide)⟩)

/-- The block of codes, assembled of its lane tiles. -/
def codeBlock (h : Fin 3 → FVec F S128x512 .f32) : FVec F S128x1536 .fp8e4m3 := fun j =>
  codesOf (lanes (h ⟨(j 1).val / 512, by have h : (j 1).val < 1536 := (j 1).isLt; omega⟩)
    ⟨(j 1).val % 512 / 128, by omega⟩) (ix2 (j 0) ⟨(j 1).val % 128, Nat.mod_lt _ (by decide)⟩)

/-- The block of scale bytes. -/
def scaleBlock (h : Fin 3 → FVec F S128x512 .f32) : IVec S128x48 8 := scaleBytes (h 0) (h 1) (h 2)

end Cert.KernelIdeal.Moe
end
-- ==== Proof.Tiles.lean ====
/- Buffers written tile by tile: what each tile holds after a list of stores, and a buffer assembled of its tiles. -/
module

public import proofs.«01_k».proof.Proof.BodyValues

@[expose] public section

set_option maxRecDepth 16384

noncomputable section

namespace Cert.KernelIdeal.Moe

open Idealize.ShloMosaic Idealize.ShloMosaic.TcCoe
open Cert.KernelIdeal
open Facts₀ Facts

variable {F : FTy → Type} [FloatOps F]

/-- A list of stores over disjoint tiles, each of a function of what its tile held: afterwards a tile of the list holds
    that function of what it held at first, and any other tile what it held. -/
theorem fold_put {s : Shape} {α T : Type} [DecidableEq T] (off : T → Fin s.rank → ℕ) (size : Fin s.rank → ℕ)
    (inb : ∀ t a, off t a + size a ≤ s.size a)
    (disj : ∀ t t', t ≠ t' → ∃ a, off t a + size a ≤ off t' a ∨ off t' a + size a ≤ off t a)
    (g : T → (((a : Fin s.rank) → Fin (size a)) → α) → ((a : Fin s.rank) → Fin (size a)) → α) (L : List T) (hL : L.Nodup)
    (Y : s.Idx → α) (t : T) :
    VecWindow.window (L.foldl (fun Y t => VecWindow.put Y (off t) size (g t (VecWindow.window Y (off t) size (inb t)))) Y) (off t) size (inb t)
      = if t ∈ L then g t (VecWindow.window Y (off t) size (inb t)) else VecWindow.window Y (off t) size (inb t) := by
  induction L generalizing Y with
  | nil => rfl
  | cons u L ih =>
    rw [List.foldl_cons, ih (List.nodup_cons.mp hL).2]
    by_cases htu : t = u
    · subst htu
      rw [if_neg (List.nodup_cons.mp hL).1, if_pos List.mem_cons_self, VecWindow.window_put_same]
    · obtain ⟨a, ha⟩ := disj t u htu
      rw [VecWindow.window_put_of_disjoint Y (off u) size (off t) size (inb t) _ a ha]
      simp only [List.mem_cons, htu, false_or]

/-- The lane tiles of a block lie apart. -/
theorem disj_lane {n w : ℕ} {T : Type} (p : T → ℕ) (hp : ∀ t t', t ≠ t' → p t + w ≤ p t' ∨ p t' + w ≤ p t) (t t' : T) (h : t ≠ t') :
    ∃ a : Fin 2, (![0, p t] : Fin 2 → ℕ) a + (![n, w] : Fin 2 → ℕ) a ≤ (![0, p t'] : Fin 2 → ℕ) a
      ∨ (![0, p t'] : Fin 2 → ℕ) a + (![n, w] : Fin 2 → ℕ) a ≤ (![0, p t] : Fin 2 → ℕ) a := ⟨1, hp t t' h⟩

/-- A window of the whole buffer is the buffer. -/
theorem window_full {n w : ℕ} {α : Type} (X : (⟨2, ![n, w]⟩ : Shape).Idx → α) (inb) :
    VecWindow.window (s := ⟨2, ![n, w]⟩) X ![0, 0] ![n, w] inb = X := by
  funext j
  refine congrArg X (funext fun a => Fin.ext ?_)
  match a with
  | 0 => exact (Nat.zero_add _).trans (Nat.one_mul _)
  | 1 => exact (Nat.zero_add _).trans (Nat.one_mul _)

/-- A store of the whole buffer leaves the payload. -/
theorem put_full {n w : ℕ} {α : Type} (X : (⟨2, ![n, w]⟩ : Shape).Idx → α)
    (inb : ∀ a, (![0, 0] : Fin 2 → ℕ) a + (![n, w] : Fin 2 → ℕ) a ≤ (![n, w] : Fin 2 → ℕ) a) (v : ((a : Fin 2) → Fin ((![n, w] : Fin 2 → ℕ) a)) → α) :
    VecWindow.put (s := ⟨2, ![n, w]⟩) X ![0, 0] ![n, w] v = v := by
  have h := VecWindow.window_put_same (s := ⟨2, ![n, w]⟩) X ![0, 0] ![n, w] inb v
  rw [window_full] at h
  exact h

/-- A buffer at a position is its tile there. -/
theorem at_tile {n w N : ℕ} {α : Type} (X : (⟨2, ![n, N]⟩ : Shape).Idx → α) (o : ℕ) (inb) (j : (⟨2, ![n, N]⟩ : Shape).Idx) (y : Fin w)
    (h : (j 1).val = o + y.val) :
    X j = VecWindow.window (s := ⟨2, ![n, N]⟩) X ![0, o] ![n, w] inb (ix2 (j 0) y) := by
  refine congrArg X (funext fun a => Fin.ext ?_)
  match a with
  | 0 => exact ((Nat.zero_add _).trans (Nat.one_mul _)).symm
  | 1 =>
    refine h.trans ?_
    exact congrArg (o + ·) (Nat.one_mul _).symm

/-! ## The five loops of stores -/

/-- The activations' block after its lane tiles are stored, over a list of tiles. -/
def putTiles (sc : FVec F S128x128 .f32) (x0 : Vec F S128x3072 .fp8e4m3) (L : List (Fin 24)) (Y : Vec F S128x3072 .bf16) : Vec F S128x3072 .bf16 :=
  L.foldl (fun Y t => VecWindow.put Y ![0, 128 * t.val] S128x128.size (xtile sc t (tile128 x0 t))) Y

/-- The codes' block after chunk `c`'s lane tiles are stored, over a list of chunks and tiles. -/
def putCodes (h : Fin 3 → FVec F S128x512 .f32) (L : List (Fin 3 × Fin 4)) (Y : Vec F S128x1536 .fp8e4m3) : Vec F S128x1536 .fp8e4m3 :=
  L.foldl (fun Y p => VecWindow.put Y ![0, 512 * p.1.val + 128 * p.2.val] S128x128.size (codesOf (lanes (h p.1) p.2))) Y

/-- A block of 3072 columns after columns `512 n ..` are replaced by a function of what they held, over a list of `n`. -/
def putCols {α : Type} (g : Fin 6 → (S128x512.Idx → α) → S128x512.Idx → α) (L : List (Fin 6)) (Y : S128x3072.Idx → α) : S128x3072.Idx → α :=
  L.foldl (fun Y n => VecWindow.put Y ![0, 512 * n.val] S128x512.size (g n (tile512 Y n))) Y

/-- All the lane tiles stored: the dequantised activations, whatever was there. -/
theorem putTiles_all (x0 : Vec F S128x3072 .fp8e4m3) (x1 : Vec F S128x96 .i8) (Y : Vec F S128x3072 .bf16) :
    putTiles (xscale x1) x0 [0, 1, 2, 3, 4, 5, 6, 7, 8, 9, 10, 11, 12, 13, 14, 15, 16, 17, 18, 19, 20, 21, 22, 23] Y = activations x0 x1 := by
  funext j
  have hj : (j 1).val < 3072 := (j 1).isLt
  have ht : (j 1).val / 128 < 24 := by omega
  refine (at_tile (w := 128) _ (128 * ((j 1).val / 128)) (inb_x ⟨(j 1).val / 128, ht⟩) j ⟨(j 1).val % 128, Nat.mod_lt _ (by decide)⟩ (by show _ = _ + (j 1).val % 128; omega)).trans ?_
  exact congrFun ((fold_put (s := S128x3072) (fun t : Fin 24 => ![0, 128 * t.val]) S128x128.size inb_x
    (disj_lane (fun t : Fin 24 => 128 * t.val) (by decide)) (fun t _ => xtile (xscale x1) t (tile128 x0 t)) _ (by decide) Y ⟨(j 1).val / 128, ht⟩).trans
    (if_pos (by generalize (⟨(j 1).val / 128, ht⟩ : Fin 24) = t; revert t; decide))) _

/-- All the lane tiles of all the chunks stored: the block of codes, whatever was there. -/
theorem putCodes_all (h : Fin 3 → FVec F S128x512 .f32) (Y : Vec F S128x1536 .fp8e4m3) :
    putCodes h [(2, 0), (2, 1), (2, 2), (2, 3)] (putCodes h [(1, 0), (1, 1), (1, 2), (1, 3)] (putCodes h [(0, 0), (0, 1), (0, 2), (0, 3)] Y)) = codeBlock h := by
  funext j
  have hj : (j 1).val < 1536 := (j 1).isLt
  have hc : (j 1).val / 512 < 3 := by omega
  have ht : (j 1).val % 512 / 128 < 4 := by omega
  refine (at_tile (w := 128) _ (512 * ((j 1).val / 512) + 128 * ((j 1).val % 512 / 128)) (inb_hc ⟨(j 1).val / 512, hc⟩ ⟨(j 1).val % 512 / 128, ht⟩) j
    ⟨(j 1).val % 128, Nat.mod_lt _ (by decide)⟩ (by show _ = _ + (j 1).val % 128; omega)).trans ?_
  unfold putCodes
  rw [← List.foldl_append, ← List.foldl_append]
  exact congrFun ((fold_put (s := S128x1536) (fun p : Fin 3 × Fin 4 => ![0, 512 * p.1.val + 128 * p.2.val]) S128x128.size (fun p => inb_hc p.1 p.2)
    (disj_lane (fun p : Fin 3 × Fin 4 => 512 * p.1.val + 128 * p.2.val) (by decide)) (fun p _ => codesOf (lanes (h p.1) p.2)) _ (by decide) Y
    (⟨(j 1).val / 512, hc⟩, ⟨(j 1).val % 512 / 128, ht⟩)).trans
    (if_pos (by generalize (⟨(j 1).val / 512, hc⟩ : Fin 3) = c; generalize (⟨(j 1).val % 512 / 128, ht⟩ : Fin 4) = t; revert c t; decide))) _

/-- All the columns replaced: columns `512 n ..` hold the function of what they held. -/
theorem putCols_all {α : Type} (g : Fin 6 → (S128x512.Idx → α) → S128x512.Idx → α) (Y : S128x3072.Idx → α) (n : Fin 6) :
    tile512 (putCols g [0, 1, 2, 3, 4, 5] Y) n = g n (tile512 Y n) :=
  (fold_put (s := S128x3072) (fun n : Fin 6 => ![0, 512 * n.val]) S128x512.size inb_o
    (disj_lane (fun n : Fin 6 => 512 * n.val) (by decide)) g _ (by decide) Y n).trans (if_pos (by revert n; decide))

/-- The three rounds over the columns leave the block of the result, whatever was in the accumulator and the result. -/
theorem putCols_result (x4 : Vec F S1536x3072 .fp8e4m3) (W2 : IVec S48x3072 32) (h : Fin 3 → FVec F S128x512 .f32)
    (A : Vec F S128x3072 .f32) (Y : Vec F S128x3072 .bf16) :
    putCols (fun n _ => truncf .bf16 (addf (tile512 (putCols (fun n a => addf a (part x4 W2 1 n (hidden (h 1)))) [0, 1, 2, 3, 4, 5]
        (putCols (fun n _ => part x4 W2 0 n (hidden (h 0))) [0, 1, 2, 3, 4, 5] A)) n) (part x4 W2 2 n (hidden (h 2)))) bitsLt_bf16_f32)
      [0, 1, 2, 3, 4, 5] Y = resultBlock x4 W2 h := by
  funext j
  have hj : (j 1).val < 3072 := (j 1).isLt
  have hn : (j 1).val / 512 < 6 := by omega
  refine (at_tile (w := 512) _ (512 * ((j 1).val / 512)) (inb_o ⟨(j 1).val / 512, hn⟩) j ⟨(j 1).val % 512, Nat.mod_lt _ (by decide)⟩ (by show _ = _ + (j 1).val % 512; omega)).trans ?_
  refine (congrFun (putCols_all _ Y ⟨(j 1).val / 512, hn⟩) _).trans ?_
  dsimp only
  rw [putCols_all, putCols_all]
  rfl

end Cert.KernelIdeal.Moe
end
-- ==== Proof.BodyRun.lean ====
/- The body's triple: from the blocks of the inputs it leaves the block of the result, of the codes and of the scale
   bytes as the functions of the inputs that `BodyValues` defines, whatever the outputs and the scratch held before. -/
module

public import proofs.«01_k».proof.Proof.Rules
public import proofs.«01_k».proof.Proof.Tiles

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ (UR sig nD τ) ℕ

/-- Core `c` owns a buffer of the body, which holds `X`. -/
abbrev own (c : Dev nD) {s : Shape} {e : EltTy} (M : Memref sig .tc .vmem s e) (X : Vec F s e) : sProp 𝕄 :=
  owns (c : Thread nD τ) M fullShare X

/-- Core `c` holds its share of the table, which holds `f`. -/
abbrev table (c : Dev nD) (M : Memref sig .tc .smem S48 .i32) (f : Buf (Elt F) (M.view.loc (c : Thread nD τ))) : sProp 𝕄 :=
  M.view.loc (c : Thread nD τ) ↦{fullShare.right} f

/-- The expert number the table holds at a point. -/
def expert (c : Dev nD) (M : Memref sig .tc .smem S48 .i32) (f : Buf (Elt F) (M.view.loc (c : Thread nD τ))) (i : grid0.Coords) : BitVec 32 :=
  M.view.readAt (Elt F) (Rect.unit (s := S48) (k0_off1 i) S1.size (k0_off1_inb i)).toLoadRect f (Shape.Idx.first (numel1_S1.symm ▸ Nat.one_pos))

variable (c : Dev nD) (E : Set ℕ)

theorem run_expert (i : grid0.Coords) (M : Memref sig .tc .smem S48 .i32) (f : Buf (Elt F) (M.view.loc (c : Thread nD τ))) (K : BitVec 32 → sProp 𝕄) :
    iprop(table c M f ∗ (table c M f -∗ K (expert c M f i))) ⊢ run c E (bExpert (F := F) i M) K := by
  unfold bExpert smemLoad smemLoadElt expert
  iintro ⟨H, Hk⟩
  iapply wp_load (m := M) (r := (Rect.unit (s := S48) (k0_off1 i) S1.size (k0_off1_inb i)).toLoadRect) (S := Finset.univ) (f := f) Variants.none (c : Thread nD τ) none E (Finset.subset_univ _) $$ H
  iintro H
  iapply run_pure
  iapply Hk
  iexact H

/-- A load of a tile and a continuation. -/
theorem run_load_bind {α : Type} {s : Shape} {e : EltTy} (M : Memref sig .tc .vmem s e) (X : s.Idx → Elt F e)
    {off size : Fin s.rank → ℕ} (inb : ∀ a, off a + size a ≤ s.size a) {hl : M.view.LoadsAt (Rect.unit off size inb).toLoadRect}
    (k : ((Rect.unit off size inb).toLoadRect.shape.Idx → Elt F e) → Prog (TpuEff nD τ sig (Elt F) Λ₀ .tc) α) (K : α → sProp 𝕄) :
    iprop(own c M X ∗ (own c M X -∗ run c E (k (VecWindow.window X off size inb)) K))
      ⊢ run c E (Prog.lift (.load M (Rect.unit off size inb).toLoadRect hl) >>= k) K := by
  rw [run_bind]
  exact run_load c E M X inb (fun a => run c E (k a) K)

theorem run_words1 (arg5 : Memref sig .tc .vmem S96x1536 .i8) (arg11 : Memref sig .tc .vmem S96x1536 .i32) (x3 : Vec F S96x1536 .i8)
    (d : Vec F S96x1536 .i32) (K : PUnit → sProp 𝕄) :
    iprop(own c arg5 x3 ∗ own c arg11 d ∗ (own c arg5 x3 ∗ own c arg11 (words1 x3) -∗ K ⟨⟩)) ⊢ run c E (bWords1 (F := F) arg5 arg11) K := by
  unfold bWords1
  iintro ⟨H5, H11, Hk⟩
  iapply (run_load_bind c E arg5 x3 inb_S96x1536_S96x1536_0_0)
  isplitl [H5]
  · iexact H5
  iintro H5
  iapply (run_load_bind c E arg11 d inb_S96x1536_S96x1536_0_0)
  isplitl [H11]
  · iexact H11
  iintro H11
  iapply (run_store c E arg11 d inb_S96x1536_S96x1536_0_0)
  isplitl [H11]
  · iexact H11
  iintro H11
  iapply Hk
  isplitl [H5]
  · iexact H5
  rw [show VecWindow.put d ![0, 0] S96x1536.size (shapeCast S96x1536 (words1 (VecWindow.window x3 ![0, 0] S96x1536.size inb_S96x1536_S96x1536_0_0)) shapeCasts_S96x1536_S96x1536) = words1 x3 from by
    rw [put_full _ inb_S96x1536_S96x1536_0_0, window_full]
    exact shapeCast_self _ _]
  iexact H11

theorem run_words2 (arg7 : Memref sig .tc .vmem S96x3072 .i8) (arg12 : Memref sig .tc .vmem S48x3072 .i32) (x5 : Vec F S96x3072 .i8)
    (d : Vec F S48x3072 .i32) (o : Fin 2 → Nat) (ho : S96x3072.Slices o S48x3072) (K : PUnit → sProp 𝕄) :
    iprop(own c arg7 x5 ∗ own c arg12 d ∗ (own c arg7 x5 ∗ own c arg12 (extractStridedSlice S48x3072 o (words2 x5) ho) -∗ K ⟨⟩))
      ⊢ run c E (bWords2 (F := F) arg7 arg12 o ho) K := by
  unfold bWords2
  iintro ⟨H5, H11, Hk⟩
  iapply (run_load_bind c E arg7 x5 inb_S96x3072_S96x3072_0_0)
  isplitl [H5]
  · iexact H5
  iintro H5
  iapply (run_load_bind c E arg12 d inb_S48x3072_S48x3072_0_0)
  isplitl [H11]
  · iexact H11
  iintro H11
  iapply (run_store c E arg12 d inb_S48x3072_S48x3072_0_0)
  isplitl [H11]
  · iexact H11
  iintro H11
  iapply Hk
  isplitl [H5]
  · iexact H5
  rw [show VecWindow.put d ![0, 0] S48x3072.size (shapeCast S48x3072 (extractStridedSlice S48x3072 o (words2 (VecWindow.window x5 ![0, 0] S96x3072.size inb_S96x3072_S96x3072_0_0)) ho) shapeCasts_S48x3072_S48x3072)
      = extractStridedSlice S48x3072 o (words2 x5) ho from by
    rw [put_full _ inb_S48x3072_S48x3072_0_0, window_full]
    exact shapeCast_self _ _]
  iexact H11

/-- An expert number is even or odd. -/
theorem isMod2_cases (e : BitVec 32) : isMod2 e 0#32 = 1#1 ∨ isMod2 e 1#32 = 1#1 := by
  have h2 : divisor 2#32 = 2#32 := by decide
  have hr : Scalar.remsi e 2#32 = e.srem 2#32 := if_neg (by rintro (h | ⟨_, h⟩) <;> exact absurd h (by decide))
  have hm : e.srem 2#32 = 0#32 ∨ e.srem 2#32 = 1#32 ∨ e.srem 2#32 = 4294967295#32 := by
    have h := BitVec.toInt_srem e 2#32
    have h3 : (2#32 : BitVec 32).toInt = 2 := by decide
    rw [h3] at h
    have h4 : e.toInt.tmod 2 = 0 ∨ e.toInt.tmod 2 = 1 ∨ e.toInt.tmod 2 = -1 := by
      have hlt := Int.tmod_lt_of_pos e.toInt (by decide : (0 : Int) < 2)
      have hgt := Int.lt_tmod_of_pos e.toInt (by decide : (0 : Int) < 2)
      omega
    rcases h4 with h4 | h4 | h4
    · exact .inl (BitVec.eq_of_toInt_eq (by rw [h, h4]; decide))
    · exact .inr (.inl (BitVec.eq_of_toInt_eq (by rw [h, h4]; decide)))
    · exact .inr (.inr (BitVec.eq_of_toInt_eq (by rw [h, h4]; decide)))
  unfold isMod2 mod2
  rw [h2, hr]
  rcases hm with hm | hm | hm <;> rw [hm] <;> decide

/-- The two branches together leave the second-layer scale words of the expert. -/
theorem run_pair (arg7 : Memref sig .tc .vmem S96x3072 .i8) (arg12 : Memref sig .tc .vmem S48x3072 .i32) (x5 : Vec F S96x3072 .i8)
    (d : Vec F S48x3072 .i32) (e : BitVec 32) {α : Type} (k : Prog (TpuEff nD τ sig (Elt F) Λ₀ .tc) α) (K : α → sProp 𝕄) :
    iprop(own c arg7 x5 ∗ own c arg12 d ∗ (own c arg7 x5 ∗ own c arg12 (words2Of e x5) -∗ run c E k K))
      ⊢ run c E (bEven (F := F) arg7 arg12 (isMod2 e 0#32) >>= fun _ => bOdd (F := F) arg7 arg12 (isMod2 e 1#32) >>= fun _ => k) K := by
  rw [run_bind]
  unfold bEven bOdd words2Of
  by_cases h1 : isMod2 e 1#32 = 1#1
  · simp only [if_pos h1]
    by_cases h0 : isMod2 e 0#32 = 1#1
    · rw [if_pos h0]
      iintro ⟨H5, H11, Hk⟩
      iapply (run_words2 c E arg7 arg12 x5 d)
      isplitl [H5]
      · iexact H5
      isplitl [H11]
      · iexact H11
      iintro ⟨H5, H11⟩
      rw [run_bind]
      iapply (run_words2 c E arg7 arg12 x5)
      isplitl [H5]
      · iexact H5
      isplitl [H11]
      · iexact H11
      iexact Hk
    · rw [if_neg h0]
      iintro ⟨H5, H11, Hk⟩
      iapply (run_pure c E)
      rw [run_bind]
      iapply (run_words2 c E arg7 arg12 x5 d)
      isplitl [H5]
      · iexact H5
      isplitl [H11]
      · iexact H11
      iexact Hk
  · simp only [if_neg h1]
    rw [if_pos ((isMod2_cases e).resolve_right h1)]
    iintro ⟨H5, H11, Hk⟩
    iapply (run_words2 c E arg7 arg12 x5 d)
    isplitl [H5]
    · iexact H5
    isplitl [H11]
    · iexact H11
    iintro ⟨H5, H11⟩
    rw [pure_bind]
    iapply Hk
    isplitl [H5]
    · iexact H5
    iexact H11

theorem run_scales (arg3 : Memref sig .tc .vmem S128x96 .i8) (x1 : Vec F S128x96 .i8) (K : Vec F S128x96 .i8 → sProp 𝕄) :
    iprop(own c arg3 x1 ∗ (own c arg3 x1 -∗ K x1)) ⊢ run c E (bScales (F := F) arg3) K := by
  have h := run_load c E arg3 x1 inb_S128x96_S128x96_0_0 (hl := View.loadsAt_vmem h_S128x96) K
  rw [window_full] at h
  exact h

theorem run_tiles (arg2 : Memref sig .tc .vmem S128x3072 .fp8e4m3) (arg13 : Memref sig .tc .vmem S128x3072 .bf16)
    (harg13 : arg13.IsWhole) (sc : FVec F S128x128 .f32) (x0 : Vec F S128x3072 .fp8e4m3) (L : List (Fin 24)) (Y : Vec F S128x3072 .bf16)
    (K : PUnit → sProp 𝕄) :
    iprop(own c arg2 x0 ∗ own c arg13 Y ∗ (own c arg2 x0 ∗ own c arg13 (putTiles sc x0 L Y) -∗ K ⟨⟩))
      ⊢ run c E (bTiles arg2 arg13 harg13 sc L) K := by
  induction L generalizing Y with
  | nil =>
    iintro ⟨H2, H13, Hk⟩
    iapply (run_pure c E)
    iapply Hk
    isplitl [H2]
    · iexact H2
    iexact H13
  | cons t L ih =>
    unfold bTiles bTile
    rw [run_bind]
    iintro ⟨H2, H13, Hk⟩
    iapply (run_load_bind c E arg2 x0 (inb_x t))
    isplitl [H2]
    · iexact H2
    iintro H2
    iapply (run_load_bind c E arg13 Y (inb_x t))
    isplitl [H13]
    · iexact H13
    iintro H13
    iapply (run_store c E arg13 Y (inb_x t))
    isplitl [H13]
    · iexact H13
    iintro H13
    iapply (ih _)
    isplitl [H2]
    · iexact H2
    isplitl [H13]
    · rw [shapeCast_self]
      iexact H13
    iexact Hk

theorem run_dots1 (arg4 : Memref sig .tc .vmem S3072x1536 .fp8e4m3) (arg11 : Memref sig .tc .vmem S96x1536 .i32)
    (arg13 : Memref sig .tc .vmem S128x3072 .bf16) (n : Fin 3) (x2 : Vec F S3072x1536 .fp8e4m3) (W1 : IVec S96x1536 32)
    (XB : FVec F S128x3072 .bf16) (L : List (Fin 12)) (a : FVec F S128x512 .f32) (K : FVec F S128x512 .f32 → sProp 𝕄) :
    iprop(own c arg4 x2 ∗ own c arg11 W1 ∗ own c arg13 XB ∗ (own c arg4 x2 ∗ own c arg11 W1 ∗ own c arg13 XB -∗ K (dots XB x2 W1 n a L)))
      ⊢ run c E (bDots1 (F := F) arg4 arg11 arg13 n a L) K := by
  induction L generalizing a with
  | nil =>
    show _ ⊢ run c E (pure a) K
    rw [show dots XB x2 W1 n a [] = a from rfl]
    iintro ⟨H4, H11, H13, Hk⟩
    iapply (run_pure c E)
    iapply Hk
    isplitl [H4]
    · iexact H4
    isplitl [H11]
    · iexact H11
    iexact H13
  | cons k L ih =>
    unfold bDots1 bDot1
    rw [run_bind]
    iintro ⟨H4, H11, H13, Hk⟩
    iapply (run_load_bind c E arg4 x2 (inb_w1 n k))
    isplitl [H4]
    · iexact H4
    iintro H4
    iapply (run_load_bind c E arg11 W1 (inb_s1 n k))
    isplitl [H11]
    · iexact H11
    iintro H11
    iapply (run_load_bind c E arg13 XB (inb_xb k))
    isplitl [H13]
    · iexact H13
    iintro H13
    iapply (run_pure c E)
    iapply (ih _)
    isplitl [H4]
    · iexact H4
    isplitl [H11]
    · iexact H11
    isplitl [H13]
    · iexact H13
    iexact Hk

theorem run_codes (arg9 : Memref sig .tc .vmem S128x1536 .fp8e4m3) (harg9 : arg9.IsWhole) (n : Fin 3) (h : Fin 3 → FVec F S128x512 .f32)
    (L : List (Fin 4)) (Y : Vec F S128x1536 .fp8e4m3) (K : PUnit → sProp 𝕄) :
    iprop(own c arg9 Y ∗ (own c arg9 (putCodes h (L.map (n, ·)) Y) -∗ K ⟨⟩)) ⊢ run c E (bCodes arg9 harg9 n (h n) L) K := by
  induction L generalizing Y with
  | nil =>
    iintro ⟨H9, Hk⟩
    iapply (run_pure c E)
    iapply Hk
    iexact H9
  | cons t L ih =>
    unfold bCodes bCode
    rw [run_bind]
    iintro ⟨H9, Hk⟩
    iapply (run_load_bind c E arg9 Y (inb_hc n t))
    isplitl [H9]
    · iexact H9
    iintro H9
    iapply (run_store c E arg9 Y (inb_hc n t))
    isplitl [H9]
    · iexact H9
    iintro H9
    iapply (ih _)
    isplitl [H9]
    · iexact H9
    iexact Hk

/-- One chunk of hidden values, its codes stored: the chunk is the function of the inputs' blocks. -/
theorem run_hidden (arg4 : Memref sig .tc .vmem S3072x1536 .fp8e4m3) (arg9 : Memref sig .tc .vmem S128x1536 .fp8e4m3) (harg9 : arg9.IsWhole)
    (arg11 : Memref sig .tc .vmem S96x1536 .i32) (arg13 : Memref sig .tc .vmem S128x3072 .bf16) (n : Fin 3)
    (x0 : Vec F S128x3072 .fp8e4m3) (x1 : Vec F S128x96 .i8) (x2 : Vec F S3072x1536 .fp8e4m3) (x3 : Vec F S96x1536 .i8)
    (Y : Vec F S128x1536 .fp8e4m3) (K : FVec F S128x512 .f32 → sProp 𝕄) :
    iprop(own c arg4 x2 ∗ own c arg9 Y ∗ own c arg11 (words1 x3) ∗ own c arg13 (activations x0 x1)
        ∗ (own c arg4 x2 ∗ own c arg9 (putCodes (chunk x0 x1 x2 x3) [(n, 0), (n, 1), (n, 2), (n, 3)] Y) ∗ own c arg11 (words1 x3)
          ∗ own c arg13 (activations x0 x1) -∗ K (chunk x0 x1 x2 x3 n)))
      ⊢ run c E (bHidden arg4 arg9 harg9 arg11 arg13 n) K := by
  unfold bHidden
  rw [run_bind, show chunk x0 x1 x2 x3 n = gelu (dots (activations x0 x1) x2 (words1 x3) n zero512 [0, 1, 2, 3, 4, 5, 6, 7, 8, 9, 10, 11]) from rfl]
  iintro ⟨H4, H9, H11, H13, Hk⟩
  iapply (run_dots1 c E arg4 arg11 arg13 n x2 (words1 x3) (activations x0 x1))
  isplitl [H4]
  · iexact H4
  isplitl [H11]
  · iexact H11
  isplitl [H13]
  · iexact H13
  iintro ⟨H4, H11, H13⟩
  rw [run_bind]
  iapply (run_codes c E arg9 harg9 n (chunk x0 x1 x2 x3) [0, 1, 2, 3] Y)
  isplitl [H9]
  · iexact H9
  iintro H9
  iapply (run_pure c E)
  iapply Hk
  isplitl [H4]
  · iexact H4
  isplitl [H9]
  · iexact H9
  isplitl [H11]
  · iexact H11
  iexact H13

theorem run_part (arg6 : Memref sig .tc .vmem S1536x3072 .fp8e4m3) (arg12 : Memref sig .tc .vmem S48x3072 .i32) (n : Fin 3) (m : Fin 6)
    (hd : FVec F S128x512 .bf16) (x4 : Vec F S1536x3072 .fp8e4m3) (W2 : IVec S48x3072 32) (K : FVec F S128x512 .f32 → sProp 𝕄) :
    iprop(own c arg6 x4 ∗ own c arg12 W2 ∗ (own c arg6 x4 ∗ own c arg12 W2 -∗ K (part x4 W2 n m hd)))
      ⊢ run c E (bPart (F := F) arg6 arg12 n m hd) K := by
  unfold bPart bDot2 part tileW2 tileS2
  rw [run_bind]
  iintro ⟨H6, H12, Hk⟩
  iapply (run_load_bind c E arg6 x4 (inb_w2 n m 0))
  isplitl [H6]
  · iexact H6
  iintro H6
  iapply (run_load_bind c E arg12 W2 (inb_s2 n m 0))
  isplitl [H12]
  · iexact H12
  iintro H12
  iapply (run_pure c E)
  iapply (run_load_bind c E arg6 x4 (inb_w2 n m 1))
  isplitl [H6]
  · iexact H6
  iintro H6
  iapply (run_load_bind c E arg12 W2 (inb_s2 n m 1))
  isplitl [H12]
  · iexact H12
  iintro H12
  iapply (run_pure c E)
  iapply Hk
  isplitl [H6]
  · iexact H6
  iexact H12

theorem run_setAcc (arg14 : Memref sig .tc .vmem S128x3072 .f32) (m : Fin 6) (v : FVec F S128x512 .f32) (A : Vec F S128x3072 .f32) (K : PUnit → sProp 𝕄) :
    iprop(own c arg14 A ∗ (own c arg14 (VecWindow.put A ![0, 512 * m.val] S128x512.size v) -∗ K ⟨⟩)) ⊢ run c E (bSetAcc arg14 m v) K := by
  unfold bSetAcc bAcc
  iintro ⟨H14, Hk⟩
  iapply (run_load_bind c E arg14 A (inb_o m))
  isplitl [H14]
  · iexact H14
  iintro H14
  iapply (run_store c E arg14 A (inb_o m))
  isplitl [H14]
  · iexact H14
  iintro H14
  iapply Hk
  rw [shapeCast_self]
  iexact H14

theorem run_first (arg6 : Memref sig .tc .vmem S1536x3072 .fp8e4m3) (arg12 : Memref sig .tc .vmem S48x3072 .i32)
    (arg14 : Memref sig .tc .vmem S128x3072 .f32) (hd : FVec F S128x512 .bf16) (x4 : Vec F S1536x3072 .fp8e4m3) (W2 : IVec S48x3072 32)
    (L : List (Fin 6)) (A : Vec F S128x3072 .f32) (K : PUnit → sProp 𝕄) :
    iprop(own c arg6 x4 ∗ own c arg12 W2 ∗ own c arg14 A
        ∗ (own c arg6 x4 ∗ own c arg12 W2 ∗ own c arg14 (putCols (fun n _ => part x4 W2 0 n hd) L A) -∗ K ⟨⟩))
      ⊢ run c E (bFirst arg6 arg12 arg14 hd L) K := by
  induction L generalizing A with
  | nil =>
    iintro ⟨H6, H12, H14, Hk⟩
    iapply (run_pure c E)
    iapply Hk
    isplitl [H6]
    · iexact H6
    isplitl [H12]
    · iexact H12
    iexact H14
  | cons m L ih =>
    unfold bFirst
    rw [run_bind]
    iintro ⟨H6, H12, H14, Hk⟩
    iapply (run_part c E arg6 arg12 0 m hd x4 W2)
    isplitl [H6]
    · iexact H6
    isplitl [H12]
    · iexact H12
    iintro ⟨H6, H12⟩
    rw [run_bind]
    iapply (run_setAcc c E arg14 m _ A)
    isplitl [H14]
    · iexact H14
    iintro H14
    iapply (ih _)
    isplitl [H6]
    · iexact H6
    isplitl [H12]
    · iexact H12
    isplitl [H14]
    · iexact H14
    iexact Hk

theorem run_second (arg6 : Memref sig .tc .vmem S1536x3072 .fp8e4m3) (arg12 : Memref sig .tc .vmem S48x3072 .i32)
    (arg14 : Memref sig .tc .vmem S128x3072 .f32) (hd : FVec F S128x512 .bf16) (x4 : Vec F S1536x3072 .fp8e4m3) (W2 : IVec S48x3072 32)
    (L : List (Fin 6)) (A : Vec F S128x3072 .f32) (K : PUnit → sProp 𝕄) :
    iprop(own c arg6 x4 ∗ own c arg12 W2 ∗ own c arg14 A
        ∗ (own c arg6 x4 ∗ own c arg12 W2 ∗ own c arg14 (putCols (fun n a => addf a (part x4 W2 1 n hd)) L A) -∗ K ⟨⟩))
      ⊢ run c E (bSecond arg6 arg12 arg14 hd L) K := by
  induction L generalizing A with
  | nil =>
    iintro ⟨H6, H12, H14, Hk⟩
    iapply (run_pure c E)
    iapply Hk
    isplitl [H6]
    · iexact H6
    isplitl [H12]
    · iexact H12
    iexact H14
  | cons m L ih =>
    unfold bSecond bAcc
    rw [run_bind]
    iintro ⟨H6, H12, H14, Hk⟩
    iapply (run_part c E arg6 arg12 1 m hd x4 W2)
    isplitl [H6]
    · iexact H6
    isplitl [H12]
    · iexact H12
    iintro ⟨H6, H12⟩
    iapply (run_load_bind c E arg14 A (inb_o m))
    isplitl [H14]
    · iexact H14
    iintro H14
    rw [run_bind]
    iapply (run_setAcc c E arg14 m _ A)
    isplitl [H14]
    · iexact H14
    iintro H14
    iapply (ih _)
    isplitl [H6]
    · iexact H6
    isplitl [H12]
    · iexact H12
    isplitl [H14]
    · iexact H14
    iexact Hk

theorem run_third (arg6 : Memref sig .tc .vmem S1536x3072 .fp8e4m3) (arg12 : Memref sig .tc .vmem S48x3072 .i32)
    (arg14 : Memref sig .tc .vmem S128x3072 .f32) (arg8 : Memref sig .tc .vmem S128x3072 .bf16) (harg8 : arg8.IsWhole)
    (hd : FVec F S128x512 .bf16) (x4 : Vec F S1536x3072 .fp8e4m3) (W2 : IVec S48x3072 32)
    (L : List (Fin 6)) (A : Vec F S128x3072 .f32) (Y : Vec F S128x3072 .bf16) (K : PUnit → sProp 𝕄) :
    iprop(own c arg6 x4 ∗ own c arg12 W2 ∗ own c arg14 A ∗ own c arg8 Y
        ∗ (own c arg6 x4 ∗ own c arg12 W2 ∗ own c arg14 A
          ∗ own c arg8 (putCols (fun n _ => truncf .bf16 (addf (tile512 A n) (part x4 W2 2 n hd)) bitsLt_bf16_f32) L Y) -∗ K ⟨⟩))
      ⊢ run c E (bThird arg6 arg12 arg14 arg8 harg8 hd L) K := by
  induction L generalizing Y with
  | nil =>
    iintro ⟨H6, H12, H14, H8, Hk⟩
    iapply (run_pure c E)
    iapply Hk
    isplitl [H6]
    · iexact H6
    isplitl [H12]
    · iexact H12
    isplitl [H14]
    · iexact H14
    iexact H8
  | cons m L ih =>
    unfold bThird bAcc
    rw [run_bind]
    iintro ⟨H6, H12, H14, H8, Hk⟩
    iapply (run_part c E arg6 arg12 2 m hd x4 W2)
    isplitl [H6]
    · iexact H6
    isplitl [H12]
    · iexact H12
    iintro ⟨H6, H12⟩
    iapply (run_load_bind c E arg14 A (inb_o m))
    isplitl [H14]
    · iexact H14
    iintro H14
    iapply (run_load_bind c E arg8 Y (inb_o m))
    isplitl [H8]
    · iexact H8
    iintro H8
    rw [run_bind]
    iapply (run_store c E arg8 Y (inb_o m))
    isplitl [H8]
    · iexact H8
    iintro H8
    iapply (ih _)
    isplitl [H6]
    · iexact H6
    isplitl [H12]
    · iexact H12
    isplitl [H14]
    · iexact H14
    isplitl [H8]
    · iexact H8
    iexact Hk

theorem run_bytes (arg10 : Memref sig .tc .vmem S128x48 .i8) (harg10 : arg10.IsWhole) (b : IVec S128x48 8) (Y : Vec F S128x48 .i8) (K : PUnit → sProp 𝕄) :
    iprop(own c arg10 Y ∗ (own (F := F) c arg10 b -∗ K ⟨⟩)) ⊢ run c E (bBytes arg10 harg10 b) K := by
  unfold bBytes
  iintro ⟨H10, Hk⟩
  iapply (run_load_bind c E arg10 Y inb_S128x48_S128x48_0_0)
  isplitl [H10]
  · iexact H10
  iintro H10
  iapply (run_store c E arg10 Y inb_S128x48_S128x48_0_0)
  isplitl [H10]
  · iexact H10
  iintro H10
  iapply Hk
  rw [show VecWindow.put Y ![0, 0] S128x48.size b = b from put_full _ inb_S128x48_S128x48_0_0 _]
  iexact H10

/-- The body's triple. -/
theorem run_body (i : grid0.Coords) (arg1 : Memref sig .tc .smem S48 .i32)
    (arg2 : Memref sig .tc .vmem S128x3072 .fp8e4m3) (arg3 : Memref sig .tc .vmem S128x96 .i8)
    (arg4 : Memref sig .tc .vmem S3072x1536 .fp8e4m3) (arg5 : Memref sig .tc .vmem S96x1536 .i8)
    (arg6 : Memref sig .tc .vmem S1536x3072 .fp8e4m3) (arg7 : Memref sig .tc .vmem S96x3072 .i8)
    (arg8 : Memref sig .tc .vmem S128x3072 .bf16) (harg8 : arg8.IsWhole)
    (arg9 : Memref sig .tc .vmem S128x1536 .fp8e4m3) (harg9 : arg9.IsWhole)
    (arg10 : Memref sig .tc .vmem S128x48 .i8) (harg10 : arg10.IsWhole)
    (arg11 : Memref sig .tc .vmem S96x1536 .i32) (arg12 : Memref sig .tc .vmem S48x3072 .i32)
    (arg13 : Memref sig .tc .vmem S128x3072 .bf16) (harg13 : arg13.IsWhole) (arg14 : Memref sig .tc .vmem S128x3072 .f32)
    (f : Buf (Elt F) (arg1.view.loc (c : Thread nD τ)))
    (x0 : Vec F S128x3072 .fp8e4m3) (x1 : Vec F S128x96 .i8) (x2 : Vec F S3072x1536 .fp8e4m3) (x3 : Vec F S96x1536 .i8)
    (x4 : Vec F S1536x3072 .fp8e4m3) (x5 : Vec F S96x3072 .i8) (K : PUnit → sProp 𝕄) :
    iprop(own c arg2 x0 ∗ own c arg3 x1 ∗ own c arg4 x2 ∗ own c arg5 x3 ∗ own c arg6 x4 ∗ own c arg7 x5 ∗ (∃ d, own (F := F) c arg8 d) ∗ (∃ d, own (F := F) c arg9 d) ∗ (∃ d, own (F := F) c arg10 d) ∗ (∃ d, own (F := F) c arg11 d) ∗ (∃ d, own (F := F) c arg12 d) ∗ (∃ d, own (F := F) c arg13 d) ∗ (∃ d, own (F := F) c arg14 d) ∗ table c arg1 f
        ∗ (own c arg2 x0 ∗ own c arg3 x1 ∗ own c arg4 x2 ∗ own c arg5 x3 ∗ own c arg6 x4 ∗ own c arg7 x5 ∗ own c arg8 (resultBlock x4 (words2Of (expert c arg1 f i) x5) (chunk x0 x1 x2 x3))
          ∗ own c arg9 (codeBlock (chunk x0 x1 x2 x3)) ∗ own (F := F) c arg10 (scaleBlock (chunk x0 x1 x2 x3))
          ∗ (∃ d, own (F := F) c arg11 d) ∗ (∃ d, own (F := F) c arg12 d) ∗ (∃ d, own (F := F) c arg13 d) ∗ (∃ d, own (F := F) c arg14 d) ∗ table c arg1 f -∗ K ⟨⟩))
      ⊢ run c E (body i arg1 arg2 arg3 arg4 arg5 arg6 arg7 arg8 harg8 arg9 harg9 arg10 harg10 arg11 arg12 arg13 harg13 arg14) K := by
  unfold body
  rw [run_bind]
  iintro ⟨H2, H3, H4, H5, H6, H7, ⟨%d8, H8⟩, ⟨%d9, H9⟩, ⟨%d10, H10⟩, ⟨%d11, H11⟩, ⟨%d12, H12⟩, ⟨%d13, H13⟩, ⟨%d14, H14⟩, HT, Hk⟩
  iapply (run_expert c E i arg1 f)
  isplitl [HT]
  · iexact HT
  iintro HT
  rw [run_bind]
  iapply (run_words1 c E arg5 arg11 x3 d11)
  isplitl [H5]
  · iexact H5
  isplitl [H11]
  · iexact H11
  iintro ⟨H5, H11⟩
  iapply (run_pair c E arg7 arg12 x5 d12)
  isplitl [H7]
  · iexact H7
  isplitl [H12]
  · iexact H12
  iintro ⟨H7, H12⟩
  rw [run_bind]
  iapply (run_scales c E arg3 x1)
  isplitl [H3]
  · iexact H3
  iintro H3
  rw [run_bind]
  iapply (run_tiles c E arg2 arg13 harg13 (xscale x1) x0 _ d13)
  isplitl [H2]
  · iexact H2
  isplitl [H13]
  · iexact H13
  iintro ⟨H2, H13⟩
  rw [putTiles_all]
  rw [run_bind]
  iapply (run_hidden c E arg4 arg9 harg9 arg11 arg13 0 x0 x1 x2 x3 d9)
  isplitl [H4]
  · iexact H4
  isplitl [H9]
  · iexact H9
  isplitl [H11]
  · iexact H11
  isplitl [H13]
  · iexact H13
  iintro ⟨H4, H9, H11, H13⟩
  rw [run_bind]
  iapply (run_first c E arg6 arg12 arg14 _ x4 _ _ d14)
  isplitl [H6]
  · iexact H6
  isplitl [H12]
  · iexact H12
  isplitl [H14]
  · iexact H14
  iintro ⟨H6, H12, H14⟩
  rw [run_bind]
  iapply (run_hidden c E arg4 arg9 harg9 arg11 arg13 1 x0 x1 x2 x3 _)
  isplitl [H4]
  · iexact H4
  isplitl [H9]
  · iexact H9
  isplitl [H11]
  · iexact H11
  isplitl [H13]
  · iexact H13
  iintro ⟨H4, H9, H11, H13⟩
  rw [run_bind]
  iapply (run_second c E arg6 arg12 arg14 _ x4 _ _ _)
  isplitl [H6]
  · iexact H6
  isplitl [H12]
  · iexact H12
  isplitl [H14]
  · iexact H14
  iintro ⟨H6, H12, H14⟩
  rw [run_bind]
  iapply (run_hidden c E arg4 arg9 harg9 arg11 arg13 2 x0 x1 x2 x3 _)
  isplitl [H4]
  · iexact H4
  isplitl [H9]
  · iexact H9
  isplitl [H11]
  · iexact H11
  isplitl [H13]
  · iexact H13
  iintro ⟨H4, H9, H11, H13⟩
  rw [run_bind]
  iapply (run_third c E arg6 arg12 arg14 arg8 harg8 _ x4 _ _ _ d8)
  isplitl [H6]
  · iexact H6
  isplitl [H12]
  · iexact H12
  isplitl [H14]
  · iexact H14
  isplitl [H8]
  · iexact H8
  iintro ⟨H6, H12, H14, H8⟩
  iapply (run_bytes c E arg10 harg10 _ d10)
  isplitl [H10]
  · iexact H10
  iintro H10
  rw [putCodes_all, putCols_result]
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists _; iexact H11
  isplitl [H12]
  · iexists _; iexact H12
  isplitl [H13]
  · iexists _; iexact H13
  isplitl [H14]
  · iexists _; iexact H14
  iexact HT

end Cert.KernelIdeal.Moe
end
-- ==== Proof.Region.lean ====
/- The program up to its kernel call: what the buffers hold when the kernel starts, the table of expert numbers, the
   block of each window at each grid point, and the invariant that carries the scratch and the table. -/
module

public import proofs.«01_k».proof.Proof.BodyRun

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the kernel call is reached: after the host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to the kernel call is the two lines of host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes an argument: the kernel call finds it as launched. -/
theorem V_arg (c : Dev nD) (b : Ref sig .tc) (hb : b ∈ [main_arg0, main_arg1, main_arg2, main_arg3, main_arg4, main_arg5, main_arg6]) :
    V m c b = m ((c : Thread nD τ).loc b) :=
  StableHlo.after_of_forall_not_mem (b := Proc.devRef .tc b) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by revert b; decide)))

/-! ## The table -/

/-- The table's contents when the kernel call is reached. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Every window whose block the table chooses has its block inside its array at every point. -/
abbrev Ok : Prop := ok0 (F := F) (tbl m)
/-- The kernel call at the table's contents. -/
abbrev adm (hO : Ok m) : (pcfg0 (F := F)).Adm := ⟨tbl m, hO⟩
abbrev cfgM (hO : Ok m) : Pipeline.Cfg sig Λ₀ := cfg0 (adm m hO)

abbrev tbM : Memref sig .tc .smem S48 .i32 := Memref.whole main_v5

/-- The share of the table handed to the body. -/
theorem PhiT_eq (c : Dev nD) : (Pipeline.ΦT pre0 (tbl m) c : sProp 𝕄) = iprop(table c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's buffers -/

abbrev ms_0 (hO : Ok m) (t : Fin (cfgM m hO).N) : Memref sig .tc .vmem S128x3072 .fp8e4m3 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S128x96 .i8 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S3072x1536 .fp8e4m3 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S96x1536 .i8 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1536x3072 .fp8e4m3 := spec0_4.stage ((cfgM m hO).slots t 4)
abbrev hs_4 (hO : Ok m) (t : Fin (cfgM m hO).N) : (ms_4 m hO t).IsWhole := hstage0_4 (((cfgM m hO).slots t 4).cast nbuf0_4)
abbrev ms_5 (hO : Ok m) (t : Fin (cfgM m hO).N) : Memref sig .tc .vmem S96x3072 .i8 := spec0_5.stage ((cfgM m hO).slots t 5)
abbrev hs_5 (hO : Ok m) (t : Fin (cfgM m hO).N) : (ms_5 m hO t).IsWhole := hstage0_5 (((cfgM m hO).slots t 5).cast nbuf0_5)
abbrev ms_6 (hO : Ok m) (t : Fin (cfgM m hO).N) : Memref sig .tc .vmem S128x3072 .bf16 := spec0_6.stage ((cfgM m hO).slots t 6)
abbrev hs_6 (hO : Ok m) (t : Fin (cfgM m hO).N) : (ms_6 m hO t).IsWhole := hstage0_6 (((cfgM m hO).slots t 6).cast nbuf0_6)
abbrev ms_7 (hO : Ok m) (t : Fin (cfgM m hO).N) : Memref sig .tc .vmem S128x1536 .fp8e4m3 := spec0_7.stage ((cfgM m hO).slots t 7)
abbrev hs_7 (hO : Ok m) (t : Fin (cfgM m hO).N) : (ms_7 m hO t).IsWhole := hstage0_7 (((cfgM m hO).slots t 7).cast nbuf0_7)
abbrev ms_8 (hO : Ok m) (t : Fin (cfgM m hO).N) : Memref sig .tc .vmem S128x48 .i8 := spec0_8.stage ((cfgM m hO).slots t 8)
abbrev hs_8 (hO : Ok m) (t : Fin (cfgM m hO).N) : (ms_8 m hO t).IsWhole := hstage0_8 (((cfgM m hO).slots t 8).cast nbuf0_8)
abbrev sc_0 : Memref sig .tc .vmem S96x1536 .i32 := Memref.whole cc0_scratch0
abbrev sc_1 : Memref sig .tc .vmem S48x3072 .i32 := Memref.whole cc0_scratch1
abbrev sc_2 : Memref sig .tc .vmem S128x3072 .bf16 := Memref.whole cc0_scratch2
abbrev sc_3 : Memref sig .tc .vmem S128x3072 .f32 := Memref.whole cc0_scratch3

/-- The invariant between points: the scratch at some contents, and the generator register. -/
theorem PhiA_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d)) ∗ (∃ r, prngReg c r)) := by
  unfold Pipeline.ΦA; rw [scopedRest0_eq]; simp only [sc_0, sc_1, sc_2, sc_3, owns_whole]; try rfl

/-- The body at point `t`, on the buffers it is called with. -/
abbrev bodyAt (hO : Ok m) (t : Fin (cfgM m hO).N) : Prog (TpuEff nD τ sig (Elt F) Λ₀ .tc) PUnit :=
  cc0_moe_ffn_mxfp8 (grid0.coords t) tbM (Memref.isWhole_whole _) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t) (ms_8 m hO t) (hs_8 m hO t) sc_0 (Memref.isWhole_whole _) sc_1 (Memref.isWhole_whole _) sc_2 (Memref.isWhole_whole _) sc_3 (Memref.isWhole_whole _)

end Cert.KernelIdeal.Moe
end
-- ==== Proof.Run.lean ====
/- The run of the whole program: it ends, every counter is zero, the arguments are unchanged, and each result array holds
   the blocks of `BodyValues`. -/
module

public import proofs.«01_k».proof.Proof.Region
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The three chunks of hidden values of point `t`. -/
def hid (hO : Ok m) (c : Dev nD) (t : Fin (cfgM m hO).N) : Fin 3 → FVec F S128x512 .f32 :=
  chunk (iblk m hO c 0 t) (iblk m hO c 1 t) (iblk m hO c 2 t) (iblk m hO c 3 t)
/-- The block of the result at point `t`. -/
def out6 (hO : Ok m) (c : Dev nD) (t : Fin (cfgM m hO).N) : FVec F S128x3072 .bf16 :=
  resultBlock (iblk m hO c 4 t) (words2Of (expert c tbM (tbl m 0) (grid0.coords t)) (iblk m hO c 5 t)) (hid m hO c t)
/-- The block of codes at point `t`. -/
def out7 (hO : Ok m) (c : Dev nD) (t : Fin (cfgM m hO).N) : FVec F S128x1536 .fp8e4m3 := codeBlock (hid m hO c t)
/-- The block of scale bytes at point `t`. -/
def out8 (hO : Ok m) (c : Dev nD) (t : Fin (cfgM m hO).N) : IVec S128x48 8 := scaleBlock (hid m hO c t)

/-- The proof data of the kernel call: the arrays as the call finds them, each input's block left in place, and the
    outputs' blocks. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => out6 m hO c t
    | ⟨7, _⟩ => out7 m hO c t
    | ⟨8, _⟩ => out8 m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = out6 m hO c t := by dsimp only [dats]; try rfl
theorem after_7 (hO : Ok m) (c : Dev nD) (t : Fin (cfgM m hO).N) : (dats m hO 0 c).after 7 t = out7 m hO c t := by dsimp only [dats]; try rfl
theorem after_8 (hO : Ok m) (c : Dev nD) (t : Fin (cfgM m hO).N) : (dats m hO 0 c).after 8 t = out8 m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d
theorem before_5 (hO : Ok m) (c : Dev nD) (t : Fin (cfgM m hO).N) (d) : (dats m hO 0 c).before 5 t d = iblk m hO c 5 t :=
  before_5_of m hO (dats m hO 0 c) (A_eq m hO c 5) (after_5 m hO c) t d

/-! ## The body at a point -/

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))
    ∗ (∃ d, owns (c : Thread nD τ) (ms_6 m hO t) fullShare ((dats m hO 0 c).before 6 t d))
    ∗ (∃ d, owns (c : Thread nD τ) (ms_7 m hO t) fullShare ((dats m hO 0 c).before 7 t d))
    ∗ (∃ d, owns (c : Thread nD τ) (ms_8 m hO t) fullShare ((dats m hO 0 c).before 8 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t)
    ∗ owns (c : Thread nD τ) (ms_6 m hO t) fullShare ((dats m hO 0 c).after 6 t)
    ∗ owns (c : Thread nD τ) (ms_7 m hO t) fullShare ((dats m hO 0 c).after 7 t)
    ∗ owns (c : Thread nD τ) (ms_8 m hO t) fullShare ((dats m hO 0 c).after 8 t))

/-- The body takes the one to the other. -/
theorem sound_body (hO : Ok m) (c : Dev nD) (t : Fin (cfgM m hO).N) :
    bodyPre m hO c t ⊢ run c Set.univ (bodyAt m hO t) (fun _ => bodyPost m hO c t) := by
  unfold bodyPre bodyPost bodyAt
  rw [cc0_eq]
  simp only [before_0, before_1, before_2, before_3, before_4, before_5]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7, after_8]
  rw [show (dats m hO 0 c).Φ t.castSucc = iprop(Pipeline.ΦA spec0 c ∗ Pipeline.ΦT pre0 (tbl m) c) from rfl, PhiT_eq, PhiA_eq]
  unfold out6 out7 out8 hid
  iintro ⟨⟨⟨⟨HS0, HS1, HS2, HS3⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c Set.univ (grid0.coords t) tbM _ _ _ _ _ _ _ (hs_6 m hO t) _ (hs_7 m hO t) _ (hs_8 m hO t) sc_0 sc_1 sc_2 (Memref.isWhole_whole _) sc_3 (tbl m 0)
    (iblk m hO c 0 t) (iblk m hO c 1 t) (iblk m hO c 2 t) (iblk m hO c 3 t) (iblk m hO c 4 t) (iblk m hO c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HT]; · iexact HT
  iintro ⟨H0, H1, H2, H3, H4, H5, H6, H7, H8, HS0, HS1, HS2, HS3, HT⟩
  isplitl [HS0 HS1 HS2 HS3 Hg HT]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body meets what the kernel call asks of it at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

set_option backward.isDefEq.respectTransparency.types false in
/-- The run ends with each window's array at the contents its blocks give it, every other buffer as the kernel call found
    it, and every counter at zero. -/
theorem run_main (hO : Ok m) : θ_run defs (onTc (τ := τ) (main (F := F))) ⟨m, fun _ => 0, ρ⟩
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- What the run says of the arguments: they are unchanged. -/
theorem args_of_post (hO : Ok m) {r : PUnit × MemSt nD τ sig (Elt F)}
    (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have arr (w : Fin 9) (hin : ((cfgM m hO).win w).isOut = false) :=
    ((h c).1 w).trans (((dats m hO 0 c).arrAt_in w hin _).trans (A_eq m hO c w))
  ⟨((h c).2 main_arg0 (by decide : main_arg0 ∈ Pipeline.restRefs sig spec0)).trans (V_arg m c _ (by decide)),
    (arr 1 rfl).trans (V_arg m c main_arg1 (by decide)),
    ((h c).2 main_arg2 (by decide : main_arg2 ∈ Pipeline.restRefs sig spec0)).trans (V_arg m c _ (by decide)),
    (arr 3 rfl).trans (V_arg m c main_arg3 (by decide)),
    ((h c).2 main_arg4 (by decide : main_arg4 ∈ Pipeline.restRefs sig spec0)).trans (V_arg m c _ (by decide)),
    (arr 5 rfl).trans (V_arg m c main_arg5 (by decide)),
    ((h c).2 main_arg6 (by decide : main_arg6 ∈ Pipeline.restRefs sig spec0)).trans (V_arg m c _ (by decide))⟩

end Cert.KernelIdeal.Moe
end
-- ==== Proof.Table.lean ====
/- What the host operations leave in the buffers that the kernel call reads: the code arrays read as fp8 numbers, and the
   table of expert numbers, which is each row's first column divided by twelve. -/
module

public import proofs.«01_k».proof.Proof.Region
public import proofs.«01_k».proof.Proof.Gen.Pre_cols
public import Idealize.ShloMosaic.Lib.StableHlo.ReadAt
public import Idealize.ShloMosaic.Lib.StableHlo.Predicate
public import Idealize.ShloMosaic.Lib.Routing.Words
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_v0 (c : Dev nD) : V m c main_v0 = bitcastToFloat .fp8e4m3 (m ((c : Thread nD τ).loc main_arg0)) := by
  funext j
  unfold V hostOps0 hostOps0_1
  after_reads_at

theorem V_v1 (c : Dev nD) : V m c main_v1 = bitcastToFloat .fp8e4m3 (m ((c : Thread nD τ).loc main_arg2)) := by
  funext j
  unfold V hostOps0 hostOps0_1
  after_reads_at

theorem V_v2 (c : Dev nD) : V m c main_v2 = bitcastToFloat .fp8e4m3 (m ((c : Thread nD τ).loc main_arg4)) := by
  funext j
  unfold V hostOps0 hostOps0_1
  after_reads_at

/-- Row `r` of the column array is twelve consecutive columns, the first twelve times an expert number below forty. -/
def Cols (a6 : IVec S48x12 32) : Prop :=
  ∀ r : Fin 48, ∃ e : ℕ, e < 40 ∧ ∀ j : Fin 12, a6 (ix2 r j) = BitVec.ofNat 32 (12 * e + j.val)

theorem andi_one : ∀ a b : BitVec 1, IntOp.andi a b = 1#1 ↔ a = 1#1 ∧ b = 1#1 := by decide

/-- A non-negative word below 480 that twelve divides is twelve times a number below forty. -/
theorem first_of (x : BitVec 32) (h0 : IntOp.cmpi .sge x 0#32 = 1#1) (h1 : IntOp.cmpi .slt x 480#32 = 1#1)
    (h2 : IntOp.cmpi .eq (IntOp.remsi .host x 12#32) 0#32 = 1#1) : ∃ e : ℕ, e < 40 ∧ x = BitVec.ofNat 32 (12 * e) := by
  have e0 : (0#32).sle x = true := (StableHlo.Predicate.ofBool_eq_one_iff _).mp h0
  have e1 : x.slt 480#32 = true := (StableHlo.Predicate.ofBool_eq_one_iff _).mp h1
  have h2 := StableHlo.Predicate.cmpi_eq_iff.mp h2
  have l0 : 0 ≤ x.toInt := by simpa [BitVec.sle] using e0
  have l1 : x.toInt < 480 := by simpa [BitVec.slt] using e1
  have hx : x.toNat < 480 := by
    have := BitVec.toInt_eq_toNat_cond x
    split at this <;> omega
  have ex : x = BitVec.ofNat 32 x.toNat := by simp
  rw [ex, show (12#32) = BitVec.ofNat 32 12 from rfl, Routing.remsi_word .host (by omega) (by decide) (by decide)] at h2
  have h3 := congrArg BitVec.toNat h2
  simp only [BitVec.toNat_ofNat] at h3
  have h4 : x.toNat % 12 = 0 := by omega
  refine ⟨x.toNat / 12, by omega, ?_⟩
  rw [show 12 * (x.toNat / 12) = x.toNat from by omega]; exact ex

/-- The condition on the columns, as the array of ones that the predicate returns. -/
theorem cols_of (a0 a1 a2 a3 a4 a5 a6) (h : Cert.Pre_cols.fn (F := F) a0 a1 a2 a3 a4 a5 a6 = fun _ => 1#1) : Cols a6 := by
  intro r
  have key : ∀ j : Fin 12, _ := fun j => congrFun h (ix2 r j)
  unfold Cert.Pre_cols.fn at key
  pointwise at key
  simp only [andi_one] at key
  obtain ⟨⟨⟨h0, h1⟩, h2⟩, -⟩ := key 0
  obtain ⟨e, he, hx⟩ := first_of _ h0 h1 h2
  refine ⟨e, he, fun j => ?_⟩
  rw [StableHlo.Predicate.cmpi_eq_iff.mp (key j).2, hx]
  exact (BitVec.ofNat_add ..).symm

/-- The table's word for a first column `x`: the quotient by twelve, one less where the signs differ and there is a rest. -/
def floorWord (x : BitVec 32) : BitVec 32 :=
  Scalar.select
    (IntOp.andi
      (IntOp.cmpi .ne (if x = 0 then (0 : BitVec 32) else if BitVec.msb x = true then -1 else 1) (if 12#32 = 0 then (0 : BitVec 32) else if BitVec.msb (12#32) = true then -1 else 1))
      (IntOp.cmpi .ne (IntOp.remsi .host x 12#32) 0#32))
    (IntOp.subi (IntOp.divsi .host x 12#32) 1#32) (IntOp.divsi .host x 12#32)

theorem floorWord_of (e : ℕ) (he : e < 40) : floorWord (BitVec.ofNat 32 (12 * e)) = BitVec.ofNat 32 e := by
  unfold floorWord
  rw [show IntOp.divsi .host (BitVec.ofNat 32 (12 * e)) 12#32 = BitVec.ofNat 32 e from by
      rw [show (12#32) = BitVec.ofNat 32 12 from rfl, Routing.divsi_word .host (by omega) (by decide) (by decide)]
      congr 1; omega,
    show IntOp.remsi .host (BitVec.ofNat 32 (12 * e)) 12#32 = 0#32 from by
      rw [show (12#32) = BitVec.ofNat 32 12 from rfl, Routing.remsi_word .host (by omega) (by decide) (by decide)]
      rw [show 12 * e % 12 = 0 from by omega]]
  rw [show IntOp.cmpi .ne 0#32 0#32 = 0#1 from by decide]
  rw [show ∀ b : BitVec 1, IntOp.andi b 0#1 = 0#1 from by decide]
  exact if_neg (by decide)

/-- The expert number of row block `r`, under the condition on the columns. -/
def blockOf {a6 : IVec S48x12 32} (h : Cols a6) (r : Fin 48) : ℕ := (h r).choose
theorem blockOf_lt {a6 : IVec S48x12 32} (h : Cols a6) (r : Fin 48) : blockOf h r < 40 := (h r).choose_spec.1
theorem blockOf_col {a6 : IVec S48x12 32} (h : Cols a6) (r : Fin 48) (j : Fin 12) :
    a6 (ix2 r j) = BitVec.ofNat 32 (12 * blockOf h r + j.val) := (h r).choose_spec.2 j

theorem V_v5_word (c : Dev nD) (r : Fin 48) :
    (V m c main_v5 : IVec S48 32) (ix1 r) = floorWord ((m ((c : Thread nD τ).loc main_arg6) : IVec S48x12 32) (ix2 r 0)) := by
  unfold V hostOps0 hostOps0_1
  after_reads_at
  rfl

/-- The table's entry at `r` is that expert number. -/
theorem V_v5 (c : Dev nD) (h : Cols (m ((c : Thread nD τ).loc main_arg6))) (r : Fin 48) :
    (V m c main_v5 : IVec S48 32) (ix1 r) = BitVec.ofNat 32 (blockOf h r) := by
  rw [V_v5_word, blockOf_col h r 0]
  exact floorWord_of _ (blockOf_lt h r)

end Cert.KernelIdeal.Moe
end
-- ==== Proof.Blocks.lean ====
/- The blocks that the table chooses lie inside their arrays: the table's entries are below forty. -/
module

public import proofs.«01_k».proof.Proof.Table

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the grid. -/
abbrev pt (i : grid0.Coords) : Fin 48 := i 0

variable {m} in
/-- What an index map reads of the table at point `i`. -/
theorem entry (h : Cols (m ((0 : Dev nD).tc.loc main_arg6))) (i : grid0.Coords)
    (inb : ∀ a, (![(Scalar.indexCast (BitVec.ofNat 32 (i 0).val) : Index).toNat] : Fin 1 → Nat) a + S1.size a ≤ S48.size a) :
    (tbl m).at 0 (Rect.unit (s := S48) ![(Scalar.indexCast (BitVec.ofNat 32 (i 0).val) : Index).toNat] S1.size inb) numel1_S1 = BitVec.ofNat 32 (blockOf h (pt i)) := by
  refine Eq.trans ?_ (V_v5 m 0 h (pt i))
  show (V m 0 main_v5 : IVec S48 32) _ = (V m 0 main_v5 : IVec S48 32) _
  congr 1
  funext a
  match a with
  | ⟨0, _⟩ =>
    apply Fin.ext
    show (Scalar.indexCast (BitVec.ofNat 32 (i 0).val) : Index).toNat + 0 * 1 = (i 0).val
    have : (i 0).val < 48 := (i 0).isLt
    simp [Scalar.indexCast]
    omega

variable {m} in
/-- The expert number that the body reads at point `i`. -/
theorem expert_eq (h : Cols (m ((0 : Dev nD).tc.loc main_arg6))) (c : Dev nD) (i : grid0.Coords) :
    expert c tbM (tbl m 0) i = BitVec.ofNat 32 (blockOf h (pt i)) :=
  Eq.trans rfl (entry h i (k0_off1_inb i))

/-- The block row of the second weights' scales: half the expert number, rounded down. -/
def halfWord (v1 : BitVec 32) : BitVec 32 :=
  Scalar.select (Scalar.andi (Scalar.cmpi .ne (Scalar.subi (Scalar.extui (Scalar.cmpi .sgt v1 0#32)) (Scalar.extui (Scalar.cmpi .slt v1 0#32)))
      (Scalar.subi (Scalar.extui (Scalar.cmpi .sgt 2#32 0#32)) (Scalar.extui (Scalar.cmpi .slt 2#32 0#32))))
    (Scalar.cmpi .ne (Scalar.remsi v1 2#32) 0#32)) (Scalar.subi (Scalar.divsi v1 2#32) 1#32) (Scalar.divsi v1 2#32)

theorem halfWord_of : ∀ e : Fin 40, (halfWord (BitVec.ofNat 32 e.val)).toNat = e.val / 2 := by decide

variable {m} in
theorem ix_2 (h : Cols (m ((0 : Dev nD).tc.loc main_arg6))) (i : grid0.Coords) :
    cc0_transform_2 k0_off1_inb numel1_S1 (tbl m) i = ![0, blockOf h (pt i)] := by
  have hb := blockOf_lt h (pt i)
  refine (congrArg (fun w : BitVec 32 => (![(0#32).toNat, w.toNat] : Fin 2 → ℕ)) (entry h i (k0_off1_inb i))).trans ?_
  show (![(0#32).toNat, (BitVec.ofNat 32 (blockOf h (pt i))).toNat] : Fin 2 → ℕ) = _
  rw [show (BitVec.ofNat 32 (blockOf h (pt i))).toNat = blockOf h (pt i) from by rw [BitVec.toNat_ofNat]; omega]; rfl

variable {m} in
theorem ix_3 (h : Cols (m ((0 : Dev nD).tc.loc main_arg6))) (i : grid0.Coords) :
    cc0_transform_3 k0_off1_inb numel1_S1 (tbl m) i = ![0, blockOf h (pt i)] := by
  have hb := blockOf_lt h (pt i)
  refine (congrArg (fun w : BitVec 32 => (![(0#32).toNat, w.toNat] : Fin 2 → ℕ)) (entry h i (k0_off1_inb i))).trans ?_
  show (![(0#32).toNat, (BitVec.ofNat 32 (blockOf h (pt i))).toNat] : Fin 2 → ℕ) = _
  rw [show (BitVec.ofNat 32 (blockOf h (pt i))).toNat = blockOf h (pt i) from by rw [BitVec.toNat_ofNat]; omega]; rfl

variable {m} in
theorem ix_4 (h : Cols (m ((0 : Dev nD).tc.loc main_arg6))) (i : grid0.Coords) :
    cc0_transform_4 k0_off1_inb numel1_S1 (tbl m) i = ![blockOf h (pt i), 0] := by
  have hb := blockOf_lt h (pt i)
  refine (congrArg (fun w : BitVec 32 => (![w.toNat, (0#32).toNat] : Fin 2 → ℕ)) (entry h i (k0_off1_inb i))).trans ?_
  show (![(BitVec.ofNat 32 (blockOf h (pt i))).toNat, (0#32).toNat] : Fin 2 → ℕ) = _
  rw [show (BitVec.ofNat 32 (blockOf h (pt i))).toNat = blockOf h (pt i) from by rw [BitVec.toNat_ofNat]; omega]; rfl

variable {m} in
theorem ix_5 (h : Cols (m ((0 : Dev nD).tc.loc main_arg6))) (i : grid0.Coords) :
    cc0_transform_5 k0_off1_inb numel1_S1 (tbl m) i = ![blockOf h (pt i) / 2, 0] := by
  have hb := blockOf_lt h (pt i)
  refine (congrArg (fun w : BitVec 32 => (![(halfWord w).toNat, (0#32).toNat] : Fin 2 → ℕ)) (entry h i (k0_off1_inb i))).trans ?_
  have := halfWord_of ⟨blockOf h (pt i), hb⟩
  exact congrArg (fun k : ℕ => (![k, 0] : Fin 2 → ℕ)) this

variable {m} in
/-- Every block that the table chooses lies inside its array. -/
theorem ok_of (h : Cols (m ((0 : Dev nD).tc.loc main_arg6))) : Ok m := by
  have hb := fun i : grid0.Coords => blockOf_lt h (pt i)
  refine ⟨fun i => ?_, fun i => ?_, fun i => ?_, fun i => ?_⟩
  · refine ⟨?_, .inr (Affine.block_words_dvd (of_decide_eq_true rfl) (by decide))⟩
    rw [ix_2 h i]; have := hb i
    intro a; match a with
    | ⟨0, _⟩ => show (0 + 1) * 3072 ≤ 3072; omega
    | ⟨1, _⟩ => show (blockOf h (pt i) + 1) * 1536 ≤ 61440; omega
  · refine ⟨?_, .inr (Affine.block_words_dvd (of_decide_eq_true rfl) (by decide))⟩
    rw [ix_3 h i]; have := hb i
    intro a; match a with
    | ⟨0, _⟩ => show (0 + 1) * 96 ≤ 96; omega
    | ⟨1, _⟩ => show (blockOf h (pt i) + 1) * 1536 ≤ 61440; omega
  · refine ⟨?_, .inr (Affine.block_words_dvd (of_decide_eq_true rfl) (by decide))⟩
    rw [ix_4 h i]; have := hb i
    intro a; match a with
    | ⟨0, _⟩ => show (blockOf h (pt i) + 1) * 1536 ≤ 61440; omega
    | ⟨1, _⟩ => show (0 + 1) * 3072 ≤ 3072; omega
  · refine ⟨?_, .inr (Affine.block_words_dvd (of_decide_eq_true rfl) (by decide))⟩
    rw [ix_5 h i]; have := hb i
    intro a; match a with
    | ⟨0, _⟩ => show (blockOf h (pt i) / 2 + 1) * 96 ≤ 1920; omega
    | ⟨1, _⟩ => show (0 + 1) * 3072 ≤ 3072; omega

end Cert.KernelIdeal.Moe
end
-- ==== Proof.FrameClaim.lean ====
/- The frame of the kernel's program, under the condition on the columns: it ends, nothing in memory that it is given is
   changed, and every counter is at zero. -/
module

public import proofs.«01_k».proof.Proof.Run
public import proofs.«01_k».proof.Proof.Blocks

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Where the kernel's program ends. -/
def Frame : Prop :=
  ∀ (m : (ℓ : Loc nD τ sig) → Buf (Elt F) ℓ) (g : Dev nD → PrngReg),
    (∀ c : Dev nD, Cert.Pre_cols.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The kernel's program ends there. -/
theorem frame : Frame (F := F) := fun m g h =>
  have hc := cols_of _ _ _ _ _ _ _ (h 0)
  (θ_run defs _ _).mono (fun r hr => ⟨args_of_post m (ok_of hc) hr.1, hr.2⟩) (run_main m g (ok_of hc))

end Cert.KernelIdeal.Moe
end
-- ==== Proof.KernelBlocks.lean ====
/- The kernel's input blocks at an index: which element of the argument array each holds. -/
module

public import proofs.«01_k».proof.Proof.Run
public import proofs.«01_k».proof.Proof.Blocks
public import Idealize.ShloMosaic.Lib.Pipeline.ValueKit

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {m} in
/-- Where block 0 lies at point `t`. -/
theorem emb_0 (hO : Ok m) (t : Fin (cfgM m hO).N) (y) (a : Fin 2) : ((((cfgM m hO).win 0).blk t).view.emb y a : ℕ)
    = cc0_transform_0 (grid0.coords t) a * S128x3072.size a + (y a : ℕ) :=
  ValueKit.view_emb_slice_whole_unit_val _ _ _ _ _ _
variable {m} in
/-- Where block 1 lies at point `t`. -/
theorem emb_1 (hO : Ok m) (t : Fin (cfgM m hO).N) (y) (a : Fin 2) : ((((cfgM m hO).win 1).blk t).view.emb y a : ℕ)
    = cc0_transform_1 (grid0.coords t) a * S128x96.size a + (y a : ℕ) :=
  ValueKit.view_emb_slice_whole_unit_val _ _ _ _ _ _
variable {m} in
/-- Where block 2 lies at point `t`. -/
theorem emb_2 (hO : Ok m) (t : Fin (cfgM m hO).N) (y) (a : Fin 2) : ((((cfgM m hO).win 2).blk t).view.emb y a : ℕ)
    = cc0_transform_2 k0_off1_inb numel1_S1 (tbl m) (grid0.coords t) a * S3072x1536.size a + (y a : ℕ) :=
  ValueKit.view_emb_slice_whole_unit_val _ _ _ _ _ _
variable {m} in
/-- Where block 3 lies at point `t`. -/
theorem emb_3 (hO : Ok m) (t : Fin (cfgM m hO).N) (y) (a : Fin 2) : ((((cfgM m hO).win 3).blk t).view.emb y a : ℕ)
    = cc0_transform_3 k0_off1_inb numel1_S1 (tbl m) (grid0.coords t) a * S96x1536.size a + (y a : ℕ) :=
  ValueKit.view_emb_slice_whole_unit_val _ _ _ _ _ _
variable {m} in
/-- Where block 4 lies at point `t`. -/
theorem emb_4 (hO : Ok m) (t : Fin (cfgM m hO).N) (y) (a : Fin 2) : ((((cfgM m hO).win 4).blk t).view.emb y a : ℕ)
    = cc0_transform_4 k0_off1_inb numel1_S1 (tbl m) (grid0.coords t) a * S1536x3072.size a + (y a : ℕ) :=
  ValueKit.view_emb_slice_whole_unit_val _ _ _ _ _ _
variable {m} in
/-- Where block 5 lies at point `t`. -/
theorem emb_5 (hO : Ok m) (t : Fin (cfgM m hO).N) (y) (a : Fin 2) : ((((cfgM m hO).win 5).blk t).view.emb y a : ℕ)
    = cc0_transform_5 k0_off1_inb numel1_S1 (tbl m) (grid0.coords t) a * S96x3072.size a + (y a : ℕ) :=
  ValueKit.view_emb_slice_whole_unit_val _ _ _ _ _ _
variable {m} in
/-- Where block 6 lies at point `t`. -/
theorem emb_6 (hO : Ok m) (t : Fin (cfgM m hO).N) (y) (a : Fin 2) : ((((cfgM m hO).win 6).blk t).view.emb y a : ℕ)
    = cc0_transform_6 (grid0.coords t) a * S128x3072.size a + (y a : ℕ) :=
  ValueKit.view_emb_slice_whole_unit_val _ _ _ _ _ _
variable {m} in
/-- Where block 7 lies at point `t`. -/
theorem emb_7 (hO : Ok m) (t : Fin (cfgM m hO).N) (y) (a : Fin 2) : ((((cfgM m hO).win 7).blk t).view.emb y a : ℕ)
    = cc0_transform_7 (grid0.coords t) a * S128x1536.size a + (y a : ℕ) :=
  ValueKit.view_emb_slice_whole_unit_val _ _ _ _ _ _
variable {m} in
/-- Where block 8 lies at point `t`. -/
theorem emb_8 (hO : Ok m) (t : Fin (cfgM m hO).N) (y) (a : Fin 2) : ((((cfgM m hO).win 8).blk t).view.emb y a : ℕ)
    = cc0_transform_8 (grid0.coords t) a * S128x48.size a + (y a : ℕ) :=
  ValueKit.view_emb_slice_whole_unit_val _ _ _ _ _ _

/-- The number of a point, as the index maps write it. -/
theorem word_pt (i : grid0.Coords) : (BitVec.ofNat 32 (i 0).val).toNat = (pt i).val := by
  have : (i 0).val < 48 := (i 0).isLt
  rw [BitVec.toNat_ofNat]; show (i 0).val % 2 ^ 32 = (i 0).val; omega
theorem ix_0 (i : grid0.Coords) : cc0_transform_0 i = ![(pt i).val, 0] := by
  refine Eq.trans (b := ![(BitVec.ofNat 32 (i 0).val).toNat, (0#32).toNat]) rfl ?_
  rw [word_pt]; rfl
theorem ix_1 (i : grid0.Coords) : cc0_transform_1 i = ![(pt i).val, 0] := by
  refine Eq.trans (b := ![(BitVec.ofNat 32 (i 0).val).toNat, (0#32).toNat]) rfl ?_
  rw [word_pt]; rfl
theorem ix_6 (i : grid0.Coords) : cc0_transform_6 i = ![(pt i).val, 0] := by
  refine Eq.trans (b := ![(BitVec.ofNat 32 (i 0).val).toNat, (0#32).toNat]) rfl ?_
  rw [word_pt]; rfl
theorem ix_7 (i : grid0.Coords) : cc0_transform_7 i = ![(pt i).val, 0] := by
  refine Eq.trans (b := ![(BitVec.ofNat 32 (i 0).val).toNat, (0#32).toNat]) rfl ?_
  rw [word_pt]; rfl
theorem ix_8 (i : grid0.Coords) : cc0_transform_8 i = ![(pt i).val, 0] := by
  refine Eq.trans (b := ![(BitVec.ofNat 32 (i 0).val).toNat, (0#32).toNat]) rfl ?_
  rw [word_pt]; rfl

variable {m} in
/-- Block 0 at an index: an element of its array. -/
theorem iblk_0 (hO : Ok m) (c : Dev nD) (t : Fin (cfgM m hO).N) (r : Fin 128) (k : Fin 3072) :
    iblk m hO c 0 t (ix2 r k) = V m c main_v0 (ix2 ⟨128 * (pt (grid0.coords t)).val + r.val, by have := (pt (grid0.coords t)).isLt; omega⟩ k) := by
  unfold iblk
  refine congrArg (V m c main_v0) (funext fun a => Fin.ext ?_)
  refine (emb_0 hO t (ix2 r k) a).trans ?_
  rw [ix_0 (grid0.coords t)]
  match a with
  | ⟨0, _⟩ => show (pt (grid0.coords t)).val * 128 + r.val = _; first | exact (congrArg (· + r.val) (Nat.mul_comm _ _)) | omega
  | ⟨1, _⟩ => show 0 * 3072 + k.val = _; first | exact (congrArg (· + k.val) (Nat.mul_comm _ _)) | exact (congrArg (· + k.val) (Nat.zero_mul _)).trans (Nat.zero_add _)

variable {m} in
/-- Block 1 at an index: an element of its array. -/
theorem iblk_1 (hO : Ok m) (c : Dev nD) (t : Fin (cfgM m hO).N) (r : Fin 128) (k : Fin 96) :
    iblk m hO c 1 t (ix2 r k) = V m c main_arg1 (ix2 ⟨128 * (pt (grid0.coords t)).val + r.val, by have := (pt (grid0.coords t)).isLt; omega⟩ k) := by
  unfold iblk
  refine congrArg (V m c main_arg1) (funext fun a => Fin.ext ?_)
  refine (emb_1 hO t (ix2 r k) a).trans ?_
  rw [ix_1 (grid0.coords t)]
  match a with
  | ⟨0, _⟩ => show (pt (grid0.coords t)).val * 128 + r.val = _; first | exact (congrArg (· + r.val) (Nat.mul_comm _ _)) | omega
  | ⟨1, _⟩ => show 0 * 96 + k.val = _; first | exact (congrArg (· + k.val) (Nat.mul_comm _ _)) | exact (congrArg (· + k.val) (Nat.zero_mul _)).trans (Nat.zero_add _)

variable {m} in
/-- Block 2 at an index: an element of its array. -/
theorem iblk_2 (h : Cols (m ((0 : Dev nD).tc.loc main_arg6))) (hO : Ok m) (c : Dev nD) (t : Fin (cfgM m hO).N) (r : Fin 3072) (k : Fin 1536) :
    iblk m hO c 2 t (ix2 r k) = V m c main_v1 (ix2 r ⟨1536 * blockOf h (pt (grid0.coords t)) + k.val, by have := blockOf_lt h (pt (grid0.coords t)); omega⟩) := by
  unfold iblk
  refine congrArg (V m c main_v1) (funext fun a => Fin.ext ?_)
  refine (emb_2 hO t (ix2 r k) a).trans ?_
  rw [ix_2 h (grid0.coords t)]
  match a with
  | ⟨0, _⟩ => show 0 * 3072 + r.val = r.val; omega
  | ⟨1, _⟩ => show blockOf h (pt (grid0.coords t)) * 1536 + k.val = _; first | exact (congrArg (· + k.val) (Nat.mul_comm _ _)) | exact (congrArg (· + k.val) (Nat.zero_mul _)).trans (Nat.zero_add _)

variable {m} in
/-- Block 3 at an index: an element of its array. -/
theorem iblk_3 (h : Cols (m ((0 : Dev nD).tc.loc main_arg6))) (hO : Ok m) (c : Dev nD) (t : Fin (cfgM m hO).N) (r : Fin 96) (k : Fin 1536) :
    iblk m hO c 3 t (ix2 r k) = V m c main_arg3 (ix2 r ⟨1536 * blockOf h (pt (grid0.coords t)) + k.val, by have := blockOf_lt h (pt (grid0.coords t)); omega⟩) := by
  unfold iblk
  refine congrArg (V m c main_arg3) (funext fun a => Fin.ext ?_)
  refine (emb_3 hO t (ix2 r k) a).trans ?_
  rw [ix_3 h (grid0.coords t)]
  match a with
  | ⟨0, _⟩ => show 0 * 96 + r.val = r.val; omega
  | ⟨1, _⟩ => show blockOf h (pt (grid0.coords t)) * 1536 + k.val = _; first | exact (congrArg (· + k.val) (Nat.mul_comm _ _)) | exact (congrArg (· + k.val) (Nat.zero_mul _)).trans (Nat.zero_add _)

variable {m} in
/-- Block 4 at an index: an element of its array. -/
theorem iblk_4 (h : Cols (m ((0 : Dev nD).tc.loc main_arg6))) (hO : Ok m) (c : Dev nD) (t : Fin (cfgM m hO).N) (r : Fin 1536) (k : Fin 3072) :
    iblk m hO c 4 t (ix2 r k) = V m c main_v2 (ix2 ⟨1536 * blockOf h (pt (grid0.coords t)) + r.val, by have := blockOf_lt h (pt (grid0.coords t)); omega⟩ k) := by
  unfold iblk
  refine congrArg (V m c main_v2) (funext fun a => Fin.ext ?_)
  refine (emb_4 hO t (ix2 r k) a).trans ?_
  rw [ix_4 h (grid0.coords t)]
  match a with
  | ⟨0, _⟩ => show blockOf h (pt (grid0.coords t)) * 1536 + r.val = _; first | exact (congrArg (· + r.val) (Nat.mul_comm _ _)) | omega
  | ⟨1, _⟩ => show 0 * 3072 + k.val = _; first | exact (congrArg (· + k.val) (Nat.mul_comm _ _)) | exact (congrArg (· + k.val) (Nat.zero_mul _)).trans (Nat.zero_add _)

variable {m} in
/-- Block 5 at an index: an element of its array. -/
theorem iblk_5 (h : Cols (m ((0 : Dev nD).tc.loc main_arg6))) (hO : Ok m) (c : Dev nD) (t : Fin (cfgM m hO).N) (r : Fin 96) (k : Fin 3072) :
    iblk m hO c 5 t (ix2 r k) = V m c main_arg5 (ix2 ⟨96 * (blockOf h (pt (grid0.coords t)) / 2) + r.val, by have := blockOf_lt h (pt (grid0.coords t)); omega⟩ k) := by
  unfold iblk
  refine congrArg (V m c main_arg5) (funext fun a => Fin.ext ?_)
  refine (emb_5 hO t (ix2 r k) a).trans ?_
  rw [ix_5 h (grid0.coords t)]
  match a with
  | ⟨0, _⟩ => show blockOf h (pt (grid0.coords t)) / 2 * 96 + r.val = _; first | exact (congrArg (· + r.val) (Nat.mul_comm _ _)) | omega
  | ⟨1, _⟩ => show 0 * 3072 + k.val = _; first | exact (congrArg (· + k.val) (Nat.mul_comm _ _)) | exact (congrArg (· + k.val) (Nat.zero_mul _)).trans (Nat.zero_add _)

end Cert.KernelIdeal.Moe
end
-- ==== Proof.Scalars.lean ====
/- Extended-real arithmetic of one row of the network: powers of two and the bit patterns that denote them, the numbers the
   8-bit codes denote, gelu, and the exponent a group of hidden values is quantised with. -/
module

public import Idealize.ShloMosaic.PureOps.Ideal.Laws

@[expose] public section

noncomputable section

namespace Cert.Moe

open Idealize.ShloMosaic

/-- `2 ^ (n - 127)`: the number a scale byte `n` stands for. -/
def thr (n : ℕ) : EReal := (((2 : ℝ) ^ ((n : ℤ) - 127) : ℝ) : EReal)

theorem thr_pos (n : ℕ) : 0 < thr n := EReal.coe_pos.mpr (by positivity)

theorem thr_mono {a b : ℕ} (h : a ≤ b) : thr a ≤ thr b :=
  EReal.coe_le_coe_iff.mpr (zpow_le_zpow_right₀ (by norm_num) (by omega))

theorem thr_lt {a b : ℕ} (h : a < b) : thr a < thr b :=
  EReal.coe_lt_coe_iff.mpr (zpow_lt_zpow_right₀ (by norm_num) (by omega))

/-! ## Bit patterns of powers of two -/

theorem ofBits_f32 (b : BitVec 32) : Ideal.ofBits .f32 b = Ideal.ieee 8 23 b := rfl

/-- An f32 pattern whose exponent field is not all ones denotes a real number. -/
theorem f32_real (b : BitVec 32) (h : (b.extractLsb' 23 8).toNat ≠ 2 ^ 8 - 1) : ∃ r : ℝ, Ideal.ofBits .f32 b = (r : EReal) := by
  rw [ofBits_f32]
  unfold Ideal.ieee
  simp only
  rw [if_neg h]
  split <;> exact ⟨_, rfl⟩

theorem f32_fields : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

theorem bf16_fields : ∀ n : Fin 256, ((BitVec.ofNat 16 n.val <<< 7).extractLsb' 15 1 == 1#1) = false
    ∧ ((BitVec.ofNat 16 n.val <<< 7).extractLsb' 7 8).toNat = n.val
    ∧ ((BitVec.ofNat 16 n.val <<< 7).extractLsb' 0 7).toNat = 0 := by decide +kernel

/-- The f32 pattern with exponent field `n` and nothing else denotes `2 ^ (n - 127)`. -/
theorem f32_thr (n : ℕ) (h1 : 1 ≤ n) (h2 : n ≤ 254) : Ideal.ofBits .f32 (BitVec.ofNat 32 n <<< 23) = thr n := by
  obtain ⟨ha, hb, hc⟩ := f32_fields ⟨n, by omega⟩
  simp only at ha hb hc
  rw [ofBits_f32]
  unfold Ideal.ieee
  simp only [ha, hb, hc]
  rw [if_neg (by omega), if_neg (by omega)]
  refine congrArg Real.toEReal ?_
  have e : ((n : ℤ) - (2 ^ (8 - 1) - 1) - ((23 : ℕ) : ℤ)) = ((n : ℤ) - 127) - 23 := by norm_num
  rw [e, zpow_sub₀ (by norm_num)]
  norm_num
  ring

/-- The pattern with the all-ones exponent field denotes infinity. -/
theorem f32_top : Ideal.ofBits .f32 (BitVec.ofNat 32 255 <<< 23) = ⊤ := by
  obtain ⟨ha, hb, hc⟩ := f32_fields ⟨255, by omega⟩
  simp only at ha hb hc
  rw [ofBits_f32]
  unfold Ideal.ieee
  simp only [ha, hb, hc]
  rfl

/-- The bf16 pattern with exponent field `n` and nothing else denotes `2 ^ (n - 127)`. -/
theorem bf16_thr (n : ℕ) (h1 : 1 ≤ n) (h2 : n ≤ 254) : Ideal.ofBits .bf16 (BitVec.ofNat 16 n <<< 7) = thr n := by
  obtain ⟨ha, hb, hc⟩ := bf16_fields ⟨n, by omega⟩
  simp only at ha hb hc
  show Ideal.ieee 8 7 _ = _
  unfold Ideal.ieee
  simp only [ha, hb, hc]
  rw [if_neg (by omega), if_neg (by omega)]
  refine congrArg Real.toEReal ?_
  have e : ((n : ℤ) - (2 ^ (8 - 1) - 1) - ((7 : ℕ) : ℤ)) = ((n : ℤ) - 127) - 7 := by norm_num
  rw [e, zpow_sub₀ (by norm_num)]
  norm_num
  ring

/-- `exp2` of an integer. -/
theorem exp2_int (z : ℤ) : Ideal.exp2 (((z : ℝ)) : EReal) = (((2 : ℝ) ^ z : ℝ) : EReal) := by
  show ((Real.rpow 2 (z : ℝ) : ℝ) : EReal) = _
  exact congrArg Real.toEReal (Real.rpow_intCast 2 z)

/-! ## Codes -/

/-- A code that is not one of the two NaN patterns denotes a real number of magnitude at most 448. -/
theorem code_real (c : BitVec 8) (h1 : c ≠ 127#8) (h2 : c ≠ 255#8) :
    ∃ r : ℝ, Ideal.ofBits .fp8e4m3 c = (r : EReal) ∧ |r| ≤ 448 := by
  have hex : ¬ ((c.extractLsb' 3 4).toNat = 15 ∧ (c.extractLsb' 0 3).toNat = 7) := by
    revert h1 h2; revert c; decide +kernel
  have h3 : (c.extractLsb' 3 4).toNat < 16 := (c.extractLsb' 3 4).isLt
  have h4 : (c.extractLsb' 0 3).toNat < 8 := (c.extractLsb' 0 3).isLt
  show ∃ r : ℝ, Ideal.e4m3fn c = (r : EReal) ∧ |r| ≤ 448
  unfold Ideal.e4m3fn
  simp only
  generalize (c.extractLsb' 3 4).toNat = ex at *
  generalize (c.extractLsb' 0 3).toNat = fr at *
  have hs : |(if (c.extractLsb' 7 1 == 1#1) = true then (-1 : ℝ) else 1)| = 1 := by split <;> norm_num
  generalize (if (c.extractLsb' 7 1 == 1#1) = true then (-1 : ℝ) else 1) = sg at *
  rw [if_neg hex]
  split
  · refine ⟨_, rfl, ?_⟩
    rw [abs_mul, abs_mul, hs, one_mul]
    have : (fr : ℝ) ≤ 7 := by exact_mod_cast (by omega : fr ≤ 7)
    rw [abs_of_nonneg (by positivity), abs_of_nonneg (by positivity)]
    norm_num
    linarith
  · refine ⟨_, rfl, ?_⟩
    rw [abs_mul, abs_mul, hs, one_mul, abs_of_nonneg (by positivity), abs_of_nonneg (by positivity)]
    by_cases h15 : ex = 15
    · subst h15
      have : (fr : ℝ) ≤ 6 := by exact_mod_cast (by omega : fr ≤ 6)
      push_cast
      norm_num
      linarith
    · have hp : (2 : ℝ) ^ ((ex : ℤ) - 10) ≤ 2 ^ (4 : ℤ) := zpow_le_zpow_right₀ (by norm_num) (by omega)
      have : (fr : ℝ) ≤ 7 := by exact_mod_cast (by omega : fr ≤ 7)
      push_cast
      calc (8 + (fr : ℝ)) * 2 ^ ((ex : ℤ) - 10) ≤ (8 + 7) * 2 ^ (4 : ℤ) := by gcongr
        _ ≤ 448 := by norm_num

/-! ## Gelu -/

theorem half_val : Ideal.ofBits .f32 0x3F000000#32 = (((1 / 2 : ℝ) : ℝ) : EReal) := by
  rw [ofBits_f32]
  simp [Ideal.ieee]
  norm_num
  rw [← EReal.coe_mul]
  norm_num

theorem slope_real : ∃ r : ℝ, Ideal.ofBits .f32 0x3F4C422A#32 = (r : EReal) := f32_real _ (by decide)

theorem cube_real : ∃ r : ℝ, Ideal.ofBits .f32 0x3D372713#32 = (r : EReal) := f32_real _ (by decide)

/-- The tanh form of gelu. -/
def gelu1 (a : EReal) : EReal :=
  (Ideal.ofBits .f32 0x3F000000#32 * a) * (1 +
    Ideal.tanh (Ideal.ofBits .f32 0x3F4C422A#32 * (a + Ideal.ofBits .f32 0x3D372713#32 * ((a * a) * a))))

/-- Gelu of a real number is a real number no larger in magnitude. -/
theorem gelu1_real (a : ℝ) : ∃ r : ℝ, gelu1 (a : EReal) = (r : EReal) ∧ |r| ≤ |a| := by
  obtain ⟨C, hC⟩ := slope_real
  obtain ⟨K, hK⟩ := cube_real
  refine ⟨(1 / 2 * a) * (1 + Real.tanh (C * (a + K * ((a * a) * a)))), ?_, ?_⟩
  · unfold gelu1
    rw [half_val, hC, hK, ← EReal.coe_one]
    simp only [← EReal.coe_mul, ← EReal.coe_add]
    show _ * (_ + ((Real.tanh _ : ℝ) : EReal)) = _
    simp only [← EReal.coe_mul, ← EReal.coe_add]
  · generalize C * (a + K * ((a * a) * a)) = u
    have h1 := Real.tanh_lt_one u
    have h2 := Real.neg_one_lt_tanh u
    rw [abs_mul, abs_mul, abs_of_pos (show (0 : ℝ) < 1 + Real.tanh u by linarith), abs_of_pos (by norm_num : (0 : ℝ) < 1 / 2)]
    nlinarith [abs_nonneg a]

/-! ## The exponent of a group -/

/-- The factor one over 448. -/
def over448 : EReal := Ideal.ofBits .f32 0x3B124925#32

theorem over448_real : ∃ r : ℝ, over448 = (r : EReal) ∧ 0 ≤ r ∧ r ≤ 1 / 256 := by
  unfold over448
  rw [ofBits_f32]
  simp [Ideal.ieee]
  refine ⟨_, rfl, ?_, ?_⟩ <;> norm_num

open Classical in
/-- The exponent field of a number: the largest `n` up to 252 with `2 ^ (n - 127)` at most the number, zero if there is none. -/
def field1 (p : EReal) : ℕ := Nat.findGreatest (fun n => 1 ≤ n ∧ thr n ≤ p) 252

theorem field1_le (p : EReal) : field1 p ≤ 252 := Nat.findGreatest_le _

/-- Below `2 ^ 126`, the powers of two at most the number are those up to its exponent field. -/
theorem thr_le_iff {p : EReal} (hp : p < thr 253) {n : ℕ} (h1 : 1 ≤ n) : thr n ≤ p ↔ n ≤ field1 p := by
  classical
  constructor
  · intro h
    have : n ≤ 252 := by
      by_contra hn
      exact absurd (lt_of_le_of_lt ((thr_mono (by omega)).trans h) hp) (lt_irrefl _)
    exact Nat.le_findGreatest this ⟨h1, h⟩
  · intro h
    have h0 : field1 p ≠ 0 := by omega
    exact (thr_mono h).trans (Nat.findGreatest_of_ne_zero (P := fun n => 1 ≤ n ∧ thr n ≤ p) (n := 252) rfl h0).2

theorem lt_thr_iff {p : EReal} (hp : p < thr 253) {n : ℕ} (h1 : 1 ≤ n) : p < thr n ↔ field1 p < n := by
  rw [← not_le, thr_le_iff hp h1, not_le]

/-- The scale byte of a group: 127 for a group below the smallest normal number. -/
def byte1 (p : EReal) : ℕ := if field1 p = 0 then 127 else field1 p + 1

theorem byte1_bounds (p : EReal) : 1 ≤ byte1 p ∧ byte1 p ≤ 253 := by
  have := field1_le p
  unfold byte1
  split <;> omega

end Cert.Moe
end
-- ==== Proof.DotValue.lean ====
/- The kernel's products at an index, over the extended reals: a dequantised weight is its code's number times its scale's
   power of two, and the steps over the tiles of a product add up to one sum. -/
module

public import proofs.«01_k».proof.Proof.BodyValues
public import proofs.«01_k».proof.Proof.Scalars
public import Idealize.ShloMosaic.Lib.BitcastPair
public import Idealize.ShloMosaic.Lib.Pipeline.Value
public import Idealize.ShloMosaic.Lib.Pipeline.ValueKit

@[expose] public section

set_option maxRecDepth 16384

noncomputable section

namespace Cert.KernelIdeal.Moe

open Idealize.ShloMosaic Idealize.ShloMosaic.TcCoe Idealize.ShloMosaic.Scf
open Cert.KernelIdeal Cert.Moe
open Facts₀ Facts

/-- A tile at an index: the array there. -/
theorem window_at {n w N M : ℕ} {α : Type} (X : (⟨2, ![N, M]⟩ : Shape).Idx → α) (a b : ℕ) (inb) (i : Fin n) (j : Fin w) (k : Fin N) (l : Fin M)
    (hk : k.val = a + i.val) (hl : l.val = b + j.val) :
    VecWindow.window (s := ⟨2, ![N, M]⟩) X ![a, b] ![n, w] inb (ix2 i j) = X (ix2 k l) := by
  refine congrArg X (funext fun d => Fin.ext ?_)
  match d with
  | 0 => exact (congrArg (a + ·) (Nat.one_mul _)).trans hk.symm
  | 1 => exact (congrArg (b + ·) (Nat.one_mul _)).trans hl.symm

/-! ## Scale words -/

/-- A scale byte in both halves of a word, where a bf16 number has its exponent field. -/
def wordOf (s : BitVec 8) : BitVec 32 := IntOp.ori (IntOp.shli .vector (s.setWidth 32) 7#32) (IntOp.shli .vector (s.setWidth 32) 23#32)

theorem words1_at (v : Vec Ideal S96x1536 .i8) (i : Fin 96) (j : Fin 1536) : words1 v (ix2 i j) = wordOf (v (ix2 i j)) := by
  pointwise [words1]
  rfl

theorem words2_at (v : Vec Ideal S96x3072 .i8) (i : Fin 96) (j : Fin 3072) : words2 v (ix2 i j) = wordOf (v (ix2 i j)) := by
  pointwise [words2]
  rfl

theorem wordOf_half : ∀ (s : BitVec 8) (q : Fin 2), (wordOf s).extractLsb' (16 * q.val) 16 = BitVec.ofNat 16 s.toNat <<< 7 := by
  decide +kernel

/-- Either half of a scale word denotes the scale. -/
theorem wordOf_val (s : BitVec 8) (h1 : 1 ≤ s.toNat) (h2 : s.toNat ≤ 254) (q : ℕ) :
    Ideal.ofBits .bf16 ((wordOf s).extractLsb' (16 * (q % 2)) 16) = thr s.toNat := by
  rw [wordOf_half s ⟨q % 2, Nat.mod_lt _ (by decide)⟩]
  exact bf16_thr _ h1 h2

/-! ## Dequantised weights -/

/-- Scale words that are those of the bytes `S`, all of them from 1 to 254. -/
def Words {a b : ℕ} (w : (⟨2, ![a, b]⟩ : Shape).Idx → BitVec 32) (S : Fin a → Fin b → BitVec 8) : Prop :=
  ∀ i j, w (ix2 i j) = wordOf (S i j) ∧ 1 ≤ (S i j).toNat ∧ (S i j).toNat ≤ 254

theorem group_at (v : FVec Ideal S256x512 .bf16) (w : IVec S8x512 32) (S : Fin 8 → Fin 512 → BitVec 8) (hw : Words w S)
    (i : Fin 8) (r : Fin 32) (j : Fin 512) :
    group v w i (ix2 r j) = v (ix2 ⟨32 * i.val + r.val, by omega⟩ j) * thr (S i j).toNat := by
  pointwise [group]
  congr 1
  obtain ⟨h, h1, h2⟩ := hw i j
  rw [bitcast_32_16]
  rw [show (broadcastTo S16x512 (extractStridedSlice S1x512 ![i.val, 0] w (slices_word i)) broadcasts_S1x512_S16x512)
      (Shape.Bitcasts.srcIdx bitcasts_S16x512_w32_S32x512_w16 (ix2 r j) (S32x512.row (ix2 r j) / 2) (fun a ha => by
        have := bitcasts_S16x512_w32_S32x512_w16.pos_lt (ix2 r j) 0 (by decide) a ha; omega)) = w (ix2 i j) from ?_]
  · rw [h]
    exact wordOf_val _ h1 h2 _
  · have e : (Shape.Bitcasts.srcIdx bitcasts_S16x512_w32_S32x512_w16 (ix2 r j) (S32x512.row (ix2 r j) / 2) (fun a ha => by
        have := bitcasts_S16x512_w32_S32x512_w16.pos_lt (ix2 r j) 0 (by decide) a ha; omega)) = ix2 (⟨r.val / 2, by omega⟩ : Fin 16) j := by
      funext a
      match a with
      | 0 => exact Fin.ext (Shape.Bitcasts.srcIdx_row _ _ _ _ _ rfl)
      | 1 => exact Fin.ext (Shape.Bitcasts.srcIdx_other _ _ _ _ _ (by decide))
    rw [e]
    pointwise

/-- A dequantised weight: its code's number times the scale of its group of 32 rows. -/
theorem dequant_at (c : FVec Ideal S256x512 .fp8e4m3) (w : IVec S8x512 32) (S : Fin 8 → Fin 512 → BitVec 8) (hw : Words w S)
    (k : Fin 256) (j : Fin 512) :
    dequant c w (ix2 k j) = c (ix2 k j) * thr (S ⟨k.val / 32, by omega⟩ j).toNat := by
  unfold dequant
  generalize hv : extf (F := Ideal) .bf16 (shapeCast S256x512 c shapeCasts_S256x512_S256x512) bitsLt_fp8e4m3_bf16 = v
  have e : v (ix2 k j) = c (ix2 k j) := by subst hv; pointwise
  rw [← e]
  refine (concatenate_ofFn_apply (s₁ := S32x512) (t := S256x512) 0 (fun i : Fin 8 => group v w i) _ rfl 32 rfl (ix2 k j) ⟨k.val / 32, by omega⟩ rfl
    (ix2 (⟨k.val % 32, Nat.mod_lt _ (by decide)⟩ : Fin 32) j) rfl (fun b hb => ?_)).trans ?_
  · match b with
    | 0 => exact absurd rfl hb
    | 1 => rfl
  · rw [group_at v w S hw]
    congr 3
    exact Fin.ext (by show 32 * (k.val / 32) + k.val % 32 = k.val; omega)

/-- One step of a sum of products. -/
theorem mac_at (a : FVec Ideal S128x512 .f32) (x : FVec Ideal S128x256 .bf16) (c : FVec Ideal S256x512 .fp8e4m3) (w : IVec S8x512 32)
    (S : Fin 8 → Fin 512 → BitVec 8) (hw : Words w S) (r : Fin 128) (j : Fin 512) :
    mac a x c w (ix2 r j) = a (ix2 r j) + ∑ k : Fin 256, x (ix2 r k) * (c (ix2 k j) * thr (S ⟨k.val / 32, by omega⟩ j).toNat) := by
  pointwise [mac]
  congr 1
  exact Finset.sum_congr rfl fun k _ => by rw [dequant_at c w S hw]

theorem zero512_at (r : Fin 128) (j : Fin 512) : zero512 (F := Ideal) (ix2 r j) = 0 := by
  pointwise [zero512]

/-! ## The first product -/

theorem words_tile1 (x3 : Vec Ideal S96x1536 .i8) (h : ∀ i j, 1 ≤ (x3 (ix2 i j)).toNat ∧ (x3 (ix2 i j)).toNat ≤ 254) (c : Fin 3) (k : Fin 12) :
    Words (tileS1 (words1 x3) c k) fun i j => x3 (ix2 ⟨8 * k.val + i.val, by omega⟩ ⟨512 * c.val + j.val, by omega⟩) := fun i j => by
  refine ⟨?_, h _ _⟩
  rw [← words1_at]
  exact window_at _ _ _ _ _ _ _ _ rfl rfl

/-- The steps over a list of tiles add to the running sum. -/
theorem dots_at (XB : FVec Ideal S128x3072 .bf16) (x2 : Vec Ideal S3072x1536 .fp8e4m3) (W1 : IVec S96x1536 32) (c : Fin 3)
    (r : Fin 128) (j : Fin 512) (T : Fin 12 → EReal)
    (hT : ∀ a k, mac a (tile256 XB k) (tileW1 x2 c k) (tileS1 W1 c k) (ix2 r j) = a (ix2 r j) + T k) (L : List (Fin 12)) (a : FVec Ideal S128x512 .f32) :
    dots XB x2 W1 c a L (ix2 r j) = a (ix2 r j) + (L.map T).sum := by
  induction L generalizing a with
  | nil => exact (add_zero _).symm
  | cons k L ih =>
    refine (ih _).trans ?_
    show mac a (tile256 XB k) (tileW1 x2 c k) (tileS1 W1 c k) (ix2 r j) + _ = _
    rw [hT, List.map_cons, List.sum_cons, add_assoc]

/-- The first product: one sum over all 3072 inputs. -/
theorem dots_all (XB : FVec Ideal S128x3072 .bf16) (x2 : Vec Ideal S3072x1536 .fp8e4m3) (x3 : Vec Ideal S96x1536 .i8)
    (h : ∀ i j, 1 ≤ (x3 (ix2 i j)).toNat ∧ (x3 (ix2 i j)).toNat ≤ 254) (c : Fin 3) (r : Fin 128) (j : Fin 512) :
    dots XB x2 (words1 x3) c zero512 [0, 1, 2, 3, 4, 5, 6, 7, 8, 9, 10, 11] (ix2 r j)
      = ∑ k : Fin 3072, XB (ix2 r k) * (x2 (ix2 k ⟨512 * c.val + j.val, by omega⟩)
          * thr (x3 (ix2 ⟨k.val / 32, by omega⟩ ⟨512 * c.val + j.val, by omega⟩)).toNat) := by
  rw [dots_at XB x2 (words1 x3) c r j _ (fun a k => mac_at a _ _ _ _ (words_tile1 x3 h c k) r j), zero512_at, zero_add]
  refine (congrArg (fun L : List (Fin 12) => (L.map _).sum) (by decide : [0, 1, 2, 3, 4, 5, 6, 7, 8, 9, 10, 11] = List.finRange 12)).trans ?_
  rw [← Fin.sum_univ_def]
  refine Fin.sum_mul_add_congr (fun s k hl => ?_)
  have e1 : tile256 XB s (ix2 r k) = XB (ix2 r ⟨s.val * 256 + k.val, hl⟩) :=
    window_at _ _ _ _ _ _ _ _ (by omega) (by show _ * _ + _ = _; omega)
  have e2 : tileW1 x2 c s (ix2 k j) = x2 (ix2 ⟨s.val * 256 + k.val, hl⟩ ⟨512 * c.val + j.val, by omega⟩) :=
    window_at _ _ _ _ _ _ _ _ (by show _ * _ + _ = _; omega) (by rfl)
  rw [e1, e2]
  congr 6
  exact Fin.ext (by show 8 * s.val + k.val / 32 = (s.val * 256 + k.val) / 32; omega)

end Cert.KernelIdeal.Moe
end
-- ==== Proof.Spec.lean ====
/- One row of the network in plain mathematics, over the extended reals: the hidden values, the quantiser's codes and scale
   bytes, and the row of the result. -/
module

public import proofs.«01_k».proof.Proof.Scalars

@[expose] public section

noncomputable section

namespace Cert.Moe

open Idealize.ShloMosaic

/-- A hidden value before gelu: the row's codes and scale bytes against a column's. -/
def dot1 (x : Fin 3072 → EReal) (sx : Fin 96 → BitVec 8) (w : Fin 3072 → EReal) (sw : Fin 96 → BitVec 8) : EReal :=
  ∑ k : Fin 3072, (x k * thr (sx ⟨k.val / 32, by omega⟩).toNat) * (w k * thr (sw ⟨k.val / 32, by omega⟩).toNat)

/-- The largest magnitude of a group of 32 hidden values. -/
def groupMax (H : Fin 1536 → EReal) (g : Fin 48) : EReal :=
  Finset.univ.sup fun o : Fin 32 => max (H ⟨32 * g.val + o.val, by omega⟩) (-(H ⟨32 * g.val + o.val, by omega⟩))

/-- The group's magnitude over 448. -/
def ratio1 (H : Fin 1536 → EReal) (g : Fin 48) : EReal := groupMax H g * over448

/-- The scale byte of a group. -/
def scale1 (H : Fin 1536 → EReal) (g : Fin 48) : ℕ := byte1 (ratio1 H g)

/-- A hidden value's code: the value over its scale, clipped to the codes' range. -/
def code1 (H : Fin 1536 → EReal) (f : Fin 1536) : EReal :=
  min (Ideal.ofBits .f32 0x43E00000#32) (max (Ideal.ofBits .f32 0xC3E00000#32) (H f * thr (254 - scale1 H ⟨f.val / 32, by omega⟩)))

/-- A code times its scale again. -/
def decoded1 (H : Fin 1536 → EReal) (f : Fin 1536) : EReal := code1 H f * thr (scale1 H ⟨f.val / 32, by omega⟩)

/-- An entry of the result. -/
def out1 (H : Fin 1536 → EReal) (w : Fin 1536 → EReal) (sw : Fin 48 → BitVec 8) : EReal :=
  ∑ f : Fin 1536, decoded1 H f * (w f * thr (sw ⟨f.val / 32, by omega⟩).toNat)

/-- A row whose groups are all within the exponents the quantiser spells. -/
def Small (H : Fin 1536 → EReal) : Prop := ∀ g, ratio1 H g < thr 253

/-- A supremum over a range is one over the finite type. -/
theorem sup_range_eq (n : ℕ) (f : ℕ → EReal) : (Finset.range n).sup f = Finset.univ.sup fun i : Fin n => f i.val := by
  apply le_antisymm
  · refine Finset.sup_le fun i hi => ?_
    exact Finset.le_sup (f := fun i : Fin n => f i.val) (Finset.mem_univ (⟨i, Finset.mem_range.mp hi⟩ : Fin n))
  · exact Finset.sup_le fun i _ => Finset.le_sup (f := f) (Finset.mem_range.mpr i.isLt)

/-- A supremum over twice a range is the larger of those over its halves. -/
theorem sup_range_double (n : ℕ) (f : ℕ → EReal) :
    max ((Finset.range n).sup f) ((Finset.range n).sup fun o => f (n + o)) = (Finset.range (n + n)).sup f := by
  apply le_antisymm
  · refine max_le (Finset.sup_mono (Finset.range_mono (by omega))) (Finset.sup_le fun o ho => ?_)
    exact Finset.le_sup (f := f) (Finset.mem_range.mpr (by have := Finset.mem_range.mp ho; omega))
  · refine Finset.sup_le fun i hi => ?_
    by_cases h : i < n
    · exact le_max_of_le_left (Finset.le_sup (f := f) (Finset.mem_range.mpr h))
    · refine le_max_of_le_right ?_
      have := Finset.le_sup (f := fun o => f (n + o)) (Finset.mem_range.mpr (show i - n < n by have := Finset.mem_range.mp hi; omega))
      simpa only [Nat.add_sub_cancel' (Nat.le_of_not_lt h)] using this

/-! ## Bounds -/

/-- A sum of real numbers is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A dot product of numbers of at most 448 with scales of at most `2 ^ 52` is real and below `2 ^ 134`. -/
theorem dot1_real (x : Fin 3072 → EReal) (sx : Fin 96 → BitVec 8) (w : Fin 3072 → EReal) (sw : Fin 96 → BitVec 8)
    (hx : ∀ k, ∃ r : ℝ, x k = (r : EReal) ∧ |r| ≤ 448) (hw : ∀ k, ∃ r : ℝ, w k = (r : EReal) ∧ |r| ≤ 448)
    (hsx : ∀ g, (sx g).toNat ≤ 179) (hsw : ∀ g, (sw g).toNat ≤ 179) :
    ∃ r : ℝ, dot1 x sx w sw = (r : EReal) ∧ |r| ≤ 3072 * (448 * 2 ^ 52 * (448 * 2 ^ 52)) := by
  choose fx hx hbx using hx
  choose fw hw hbw using hw
  have hs : ∀ n : ℕ, n ≤ 179 → (2 : ℝ) ^ ((n : ℤ) - 127) ≤ 2 ^ 52 := fun n hn => by
    rw [← zpow_natCast]
    exact zpow_le_zpow_right₀ (by norm_num) (by push_cast; omega)
  refine ⟨∑ k : Fin 3072, (fx k * 2 ^ (((sx ⟨k.val / 32, by omega⟩).toNat : ℤ) - 127)) * (fw k * 2 ^ (((sw ⟨k.val / 32, by omega⟩).toNat : ℤ) - 127)), ?_, ?_⟩
  · unfold dot1 thr
    rw [coe_sum]
    refine Finset.sum_congr rfl fun k _ => ?_
    rw [hx, hw]
    simp only [← EReal.coe_mul]
  · refine (Finset.abs_sum_le_sum_abs _ _).trans ?_
    refine (Finset.sum_le_card_nsmul _ _ (448 * 2 ^ 52 * (448 * 2 ^ 52)) fun k _ => ?_).trans (by simp)
    have h1 := hs _ (hsx ⟨k.val / 32, by omega⟩)
    have h2 := hs _ (hsw ⟨k.val / 32, by omega⟩)
    rw [abs_mul, abs_mul, abs_mul, abs_of_pos (show (0 : ℝ) < 2 ^ (((sx ⟨k.val / 32, by omega⟩).toNat : ℤ) - 127) by positivity),
      abs_of_pos (show (0 : ℝ) < 2 ^ (((sw ⟨k.val / 32, by omega⟩).toNat : ℤ) - 127) by positivity)]
    have := hbx k
    have := hbw k
    gcongr

/-- Hidden values of real numbers below `2 ^ 134` are within the quantiser's exponents. -/
theorem small_of (H : Fin 1536 → EReal) (h : ∀ f, ∃ r : ℝ, H f = gelu1 (r : EReal) ∧ |r| ≤ 3072 * (448 * 2 ^ 52 * (448 * 2 ^ 52))) : Small H := fun g => by
  obtain ⟨κ, hκ, h0, h1⟩ := over448_real
  have hm : groupMax H g ≤ ((3072 * (448 * 2 ^ 52 * (448 * 2 ^ 52)) : ℝ) : EReal) := by
    refine Finset.sup_le fun o _ => ?_
    obtain ⟨r, hr, hb⟩ := h ⟨32 * g.val + o.val, by omega⟩
    obtain ⟨q, hq, hqb⟩ := gelu1_real r
    rw [hr, hq, ← EReal.coe_neg]
    have := hqb.trans hb
    refine max_le (EReal.coe_le_coe_iff.mpr ((le_abs_self q).trans this)) (EReal.coe_le_coe_iff.mpr ((neg_le_abs q).trans this))
  unfold ratio1
  rw [hκ]
  refine lt_of_le_of_lt (mul_le_mul_of_nonneg_right hm (EReal.coe_nonneg.mpr h0)) ?_
  unfold thr
  rw [← EReal.coe_mul]
  refine EReal.coe_lt_coe_iff.mpr (lt_of_le_of_lt (mul_le_mul_of_nonneg_left h1 (by positivity)) ?_)
  norm_num

end Cert.Moe
end
-- ==== Proof.QuantValue.lean ====
/- The kernel's activation function and quantiser at an index, over the extended reals: the group's largest magnitude found by
   rotations, the search for its exponent field, the codes and the scale bytes. -/
module

public import proofs.«01_k».proof.Proof.DotValue
public import proofs.«01_k».proof.Proof.Spec

@[expose] public section

set_option maxRecDepth 16384

noncomputable section

namespace Cert.KernelIdeal.Moe

open Idealize.ShloMosaic Idealize.ShloMosaic.TcCoe Idealize.ShloMosaic.Scf
open Cert.KernelIdeal Cert.Moe
open Facts₀ Facts

/-! ## Gathers along the lanes -/

theorem wrap_word : ∀ n : Fin 128, (Scalar.select (IntOp.cmpi .slt (BitVec.ofNat 32 n.val) 0#32) (IntOp.addi (BitVec.ofNat 32 n.val) 128#32)
    (BitVec.ofNat 32 n.val)).toNat % 128 = n.val := by decide +kernel

/-- A gather at a lane whose index word is `n` reads lane `n`. -/
theorem gather_at {α : Type} (v : S128x128.Idx → α) (k : IVec S128x128 32) (r l : Fin 128) (n : Fin 128) (h : k (ix2 r l) = BitVec.ofNat 32 n.val) :
    dynamicGather 1 v (wrap k) (ix2 r l) = v (ix2 r n) := by
  pointwise [wrap]
  congr 2
  refine Fin.ext ?_
  simp only [h]
  exact wrap_word n

/-- The lane number over 32. -/
theorem laneDiv32_at (r l : Fin 128) : laneDiv 32#32 (ix2 r l) = BitVec.ofNat 32 (l.val / 32) := by
  pointwise [laneDiv, lane]
  revert l
  decide +kernel

/-- The lane number over 4. -/
theorem laneDiv4_at (r l : Fin 128) : laneDiv 4#32 (ix2 r l) = BitVec.ofNat 32 (l.val / 4) := by
  pointwise [laneDiv, lane]
  revert l
  decide +kernel

/-- The lane number modulo four, times 32. -/
theorem laneMod4_at (r l : Fin 128) : muli laneMod4 (broadcast S128x128 32#32) (ix2 r l) = BitVec.ofNat 32 (32 * (l.val % 4)) := by
  pointwise [laneMod4, lane, divisor]
  revert l
  decide +kernel

/-- The first lane of a lane's group of 32. -/
theorem laneMask_at (r l : Fin 128) : andi lane (broadcast S128x128 4294967264#32) (ix2 r l) = BitVec.ofNat 32 (32 * (l.val / 32)) := by
  pointwise [lane]
  revert l
  decide +kernel

/-! ## Words that are powers of two -/

theorem shl_thr (n : ℕ) (h1 : 1 ≤ n) (h2 : n ≤ 254) : Ideal.ofBits .f32 (IntOp.shli .vector (BitVec.ofNat 32 n) 23#32) = thr n :=
  f32_thr n h1 h2

theorem setWidth_byte : ∀ s : BitVec 8, s.setWidth 32 = BitVec.ofNat 32 s.toNat := by decide +kernel

/-! ## The dequantised activations -/

theorem xscale_at (x1 : Vec Ideal S128x96 .i8) (h : ∀ i j, 1 ≤ (x1 (ix2 i j)).toNat ∧ (x1 (ix2 i j)).toNat ≤ 254)
    (r l : Fin 128) (hl : l.val < 96) : xscale x1 (ix2 r l) = thr (x1 (ix2 r ⟨l.val, hl⟩)).toNat := by
  pointwise [xscale]
  rw [dif_pos hl, setWidth_byte]
  exact shl_thr _ (h _ _).1 (h _ _).2

theorem tileWord : ∀ (l : Fin 128) (t : Fin 24), IntOp.addi (BitVec.ofNat 32 (l.val / 32)) (BitVec.ofNat 32 (4 * t.val)) = BitVec.ofNat 32 (l.val / 32 + 4 * t.val) := by
  decide +kernel

/-- A dequantised activation: its code's number times its group's scale. -/
theorem activations_at (x0 : Vec Ideal S128x3072 .fp8e4m3) (x1 : Vec Ideal S128x96 .i8)
    (h : ∀ i j, 1 ≤ (x1 (ix2 i j)).toNat ∧ (x1 (ix2 i j)).toNat ≤ 254) (r : Fin 128) (k : Fin 3072) :
    activations (F := Ideal) x0 x1 (ix2 r k) = x0 (ix2 r k) * thr (x1 (ix2 r ⟨k.val / 32, by omega⟩)).toNat := by
  show xtile (F := Ideal) (xscale x1) ⟨k.val / 128, _⟩ (tile128 x0 ⟨k.val / 128, _⟩) (ix2 r ⟨k.val % 128, _⟩) = _
  pointwise [xtile]
  congr 1
  · exact window_at _ _ _ _ _ _ _ _ (by simp) (by show k.val = 128 * (k.val / 128) + k.val % 128; omega)
  · unfold xscaleTile
    rw [gather_at _ _ r ⟨k.val % 128, Nat.mod_lt _ (by decide)⟩ ⟨k.val / 32, by omega⟩ ?_]
    · exact xscale_at x1 h r _ (by show k.val / 32 < 96; omega)
    · show IntOp.addi (laneDiv 32#32 (ix2 r _)) _ = _
      rw [laneDiv32_at]
      refine (tileWord ⟨k.val % 128, Nat.mod_lt _ (by decide)⟩ ⟨k.val / 128, by omega⟩).trans (congrArg (BitVec.ofNat 32) ?_)
      show k.val % 128 / 32 + 4 * (k.val / 128) = k.val / 32
      omega

/-! ## Hidden values -/

theorem gelu_at (a : FVec Ideal S128x512 .f32) (r : Fin 128) (j : Fin 512) : gelu a (ix2 r j) = gelu1 (a (ix2 r j)) := by
  pointwise [gelu]
  rfl

/-- A hidden value of chunk `c`: gelu of the row's dot product with a column. -/
theorem chunk_at (x0 : Vec Ideal S128x3072 .fp8e4m3) (x1 : Vec Ideal S128x96 .i8) (x2 : Vec Ideal S3072x1536 .fp8e4m3) (x3 : Vec Ideal S96x1536 .i8)
    (h1 : ∀ i j, 1 ≤ (x1 (ix2 i j)).toNat ∧ (x1 (ix2 i j)).toNat ≤ 254) (h3 : ∀ i j, 1 ≤ (x3 (ix2 i j)).toNat ∧ (x3 (ix2 i j)).toNat ≤ 254)
    (c : Fin 3) (r : Fin 128) (j : Fin 512) :
    chunk (F := Ideal) x0 x1 x2 x3 c (ix2 r j) = gelu1 (dot1 (fun k => x0 (ix2 r k)) (fun g => x1 (ix2 r g))
      (fun k => x2 (ix2 k ⟨512 * c.val + j.val, by omega⟩)) (fun g => x3 (ix2 g ⟨512 * c.val + j.val, by omega⟩))) := by
  unfold chunk
  rw [gelu_at, dots_all _ _ _ h3]
  refine congrArg gelu1 (Finset.sum_congr rfl fun k _ => ?_)
  rw [activations_at x0 x1 h1]

/-! ## The largest magnitude of a group -/

/-- A rotation step doubles the lanes the running maximum has seen. -/
theorem roll_step (m : FVec Ideal S128x128 .f32) (k : BitVec 32) (n : ℕ) (r : Fin 128) (f : ℕ → EReal)
    (hk : ∀ j : Fin 128, rollMax m k (ix2 r j) = max (m (ix2 r j)) (m (ix2 r ⟨(j.val + n) % 128, Nat.mod_lt _ (by decide)⟩)))
    (hm : ∀ j : Fin 128, m (ix2 r j) = (Finset.range n).sup fun o => f ((j.val + o) % 128)) (j : Fin 128) :
    rollMax m k (ix2 r j) = (Finset.range (n + n)).sup fun o => f ((j.val + o) % 128) := by
  rw [hk, hm, hm, ← sup_range_double]
  congr 2
  funext o
  congr 1
  show ((j.val + n) % 128 + o) % 128 = (j.val + (n + o)) % 128
  omega

theorem roll1 (m : FVec Ideal S128x128 .f32) (r j : Fin 128) :
    rollMax m 127#32 (ix2 r j) = max (m (ix2 r j)) (m (ix2 r ⟨(j.val + 1) % 128, Nat.mod_lt _ (by decide)⟩)) := by pointwise [rollMax]; rfl
theorem roll2 (m : FVec Ideal S128x128 .f32) (r j : Fin 128) :
    rollMax m 126#32 (ix2 r j) = max (m (ix2 r j)) (m (ix2 r ⟨(j.val + 2) % 128, Nat.mod_lt _ (by decide)⟩)) := by pointwise [rollMax]; rfl
theorem roll4 (m : FVec Ideal S128x128 .f32) (r j : Fin 128) :
    rollMax m 124#32 (ix2 r j) = max (m (ix2 r j)) (m (ix2 r ⟨(j.val + 4) % 128, Nat.mod_lt _ (by decide)⟩)) := by pointwise [rollMax]; rfl
theorem roll8 (m : FVec Ideal S128x128 .f32) (r j : Fin 128) :
    rollMax m 120#32 (ix2 r j) = max (m (ix2 r j)) (m (ix2 r ⟨(j.val + 8) % 128, Nat.mod_lt _ (by decide)⟩)) := by pointwise [rollMax]; rfl
theorem roll16 (m : FVec Ideal S128x128 .f32) (r j : Fin 128) :
    rollMax m 112#32 (ix2 r j) = max (m (ix2 r j)) (m (ix2 r ⟨(j.val + 16) % 128, Nat.mod_lt _ (by decide)⟩)) := by pointwise [rollMax]; rfl

/-- The group's largest magnitude, at every lane of the group. -/
theorem amax_at (v : FVec Ideal S128x128 .f32) (r l : Fin 128) :
    amax v (ix2 r l) = Finset.univ.sup fun o : Fin 32 =>
      max (v (ix2 r ⟨32 * (l.val / 32) + o.val, by omega⟩)) (-(v (ix2 r ⟨32 * (l.val / 32) + o.val, by omega⟩))) := by
  let f : ℕ → EReal := fun n => max (v (ix2 r ⟨n % 128, Nat.mod_lt _ (by decide)⟩)) (-(v (ix2 r ⟨n % 128, Nat.mod_lt _ (by decide)⟩)))
  have h0 : ∀ j : Fin 128, absf v (ix2 r j) = (Finset.range 1).sup fun o => f ((j.val + o) % 128) := fun j => by
    rw [Finset.range_one, Finset.sup_singleton]
    show max _ (-_) = _
    have e : (⟨(j.val + 0) % 128 % 128, Nat.mod_lt _ (by decide)⟩ : Fin 128) = j := Fin.ext (by simp)
    simp only [f, e]
  unfold amax
  rw [gather_at _ _ r l ⟨32 * (l.val / 32), by omega⟩ (laneMask_at r l)]
  rw [roll_step _ _ 16 r f (roll16 _ r) (roll_step _ _ 8 r f (roll8 _ r) (roll_step _ _ 4 r f (roll4 _ r)
    (roll_step _ _ 2 r f (roll2 _ r) (roll_step _ _ 1 r f (roll1 _ r) h0)))), sup_range_eq]
  refine congrArg (Finset.univ.sup (α := EReal)) (funext fun o => ?_)
  have e : (⟨(32 * (l.val / 32) + o.val) % 128 % 128, Nat.mod_lt _ (by decide)⟩ : Fin 128) = ⟨32 * (l.val / 32) + o.val, by omega⟩ :=
    Fin.ext (by show (32 * (l.val / 32) + o.val) % 128 % 128 = 32 * (l.val / 32) + o.val; omega)
  simp only [f, e]

/-! ## The exponent field -/

/-- A step of the search, in numbers. -/
def step (n a b : ℕ) : ℕ := if n < a + b then a else a + b

theorem step_le (n a b : ℕ) : step n a b ≤ a + b := by unfold step; split <;> omega

theorem bisect_at (p : FVec Ideal S128x128 .f32) (e : IVec S128x128 32) (r l : Fin 128) (hp : p (ix2 r l) < thr 253) (a b : ℕ)
    (he : e (ix2 r l) = BitVec.ofNat 32 a) (hb : 1 ≤ b) (hab : a + b ≤ 255) :
    bisect p e (BitVec.ofNat 32 b) (ix2 r l) = BitVec.ofNat 32 (step (field1 (p (ix2 r l))) a b) := by
  pointwise [bisect]
  rw [he]
  have ea : IntOp.addi (BitVec.ofNat 32 a) (BitVec.ofNat 32 b) = BitVec.ofNat 32 (a + b) := (BitVec.ofNat_add a b).symm
  rw [ea]
  have hiff : p (ix2 r l) < Ideal.ofBits .f32 (IntOp.shli .vector (BitVec.ofNat 32 (a + b)) 23#32) ↔ field1 (p (ix2 r l)) < a + b := by
    by_cases h : a + b = 255
    · rw [h]
      have ht : Ideal.ofBits .f32 (IntOp.shli .vector (BitVec.ofNat 32 255) 23#32) = ⊤ := f32_top
      rw [ht]
      have := field1_le (p (ix2 r l))
      exact ⟨fun _ => by omega, fun _ => lt_of_lt_of_le hp le_top⟩
    · rw [shl_thr _ (by omega) (by omega), lt_thr_iff hp (by omega)]
  unfold step
  by_cases h : field1 (p (ix2 r l)) < a + b
  · rw [if_pos h, if_pos (hiff.mpr h)]
  · rw [if_neg h, if_neg (fun h' => h (hiff.mp h'))]

theorem steps_eq : ∀ n : Fin 253, step n.val (step n.val (step n.val (step n.val (step n.val (step n.val (step n.val (step n.val 0 128) 64) 32) 16) 8) 4) 2) 1 = n.val := by
  decide +kernel

/-- The search finds the exponent field. -/
theorem field_at (p : FVec Ideal S128x128 .f32) (r l : Fin 128) (hp : p (ix2 r l) < thr 253) :
    field p (ix2 r l) = BitVec.ofNat 32 (field1 (p (ix2 r l))) := by
  unfold field
  generalize hn : field1 (p (ix2 r l)) = n
  have hn' : n ≤ 252 := hn ▸ field1_le _
  have b1 := step_le n 0 128
  have b2 := step_le n (step n 0 128) 64
  have b3 := step_le n (step n (step n 0 128) 64) 32
  have b4 := step_le n (step n (step n (step n 0 128) 64) 32) 16
  have b5 := step_le n (step n (step n (step n (step n 0 128) 64) 32) 16) 8
  have b6 := step_le n (step n (step n (step n (step n (step n 0 128) 64) 32) 16) 8) 4
  have b7 := step_le n (step n (step n (step n (step n (step n (step n 0 128) 64) 32) 16) 8) 4) 2
  have s0 : (broadcast S128x128 0#32 : IVec S128x128 32) (ix2 r l) = BitVec.ofNat 32 0 := rfl
  have s1 := bisect_at p _ r l hp 0 128 s0 (by omega) (by omega); rw [hn] at s1
  have s2 := bisect_at p _ r l hp _ 64 s1 (by omega) (by omega); rw [hn] at s2
  have s3 := bisect_at p _ r l hp _ 32 s2 (by omega) (by omega); rw [hn] at s3
  have s4 := bisect_at p _ r l hp _ 16 s3 (by omega) (by omega); rw [hn] at s4
  have s5 := bisect_at p _ r l hp _ 8 s4 (by omega) (by omega); rw [hn] at s5
  have s6 := bisect_at p _ r l hp _ 4 s5 (by omega) (by omega); rw [hn] at s6
  have s7 := bisect_at p _ r l hp _ 2 s6 (by omega) (by omega); rw [hn] at s7
  have s8 := bisect_at p _ r l hp _ 1 s7 (by omega) (by omega); rw [hn] at s8
  exact s8.trans (congrArg (BitVec.ofNat 32) (steps_eq ⟨n, by omega⟩))

/-! ## Codes and scale bytes -/

theorem scale_word : ∀ n : Fin 253, Scalar.select (IntOp.cmpi .eq (BitVec.ofNat 32 n.val) 0#32) 127#32 (IntOp.addi (BitVec.ofNat 32 n.val) 1#32)
    = BitVec.ofNat 32 (if n.val = 0 then 127 else n.val + 1) := by decide +kernel

theorem scaleOf_at (v : FVec Ideal S128x128 .f32) (r l : Fin 128) (hp : ratio v (ix2 r l) < thr 253) :
    scaleOf v (ix2 r l) = BitVec.ofNat 32 (byte1 (ratio v (ix2 r l))) := by
  have h : scaleOf v (ix2 r l) = Scalar.select (IntOp.cmpi .eq (field (ratio v) (ix2 r l)) 0#32) 127#32 (IntOp.addi (field (ratio v) (ix2 r l)) 1#32) := rfl
  rw [h, field_at _ r l hp]
  exact scale_word ⟨_, Nat.lt_succ_of_le (field1_le _)⟩

theorem sub_word : ∀ n : Fin 254, IntOp.subi 254#32 (BitVec.ofNat 32 n.val) = BitVec.ofNat 32 (254 - n.val) := by decide +kernel

theorem codesOf_at (v : FVec Ideal S128x128 .f32) (r l : Fin 128) (hp : ratio v (ix2 r l) < thr 253) :
    codesOf v (ix2 r l) = min (Ideal.ofBits .f32 0x43E00000#32) (max (Ideal.ofBits .f32 0xC3E00000#32)
      (v (ix2 r l) * thr (254 - byte1 (ratio v (ix2 r l))))) := by
  have hb := byte1_bounds (ratio v (ix2 r l))
  pointwise [codesOf]
  rw [scaleOf_at v r l hp, sub_word ⟨byte1 (ratio v (ix2 r l)), by omega⟩, shl_thr _ (by omega) (by omega)]

theorem decoded_at (v : FVec Ideal S128x128 .f32) (r l : Fin 128) (hp : ratio v (ix2 r l) < thr 253) :
    decoded v (ix2 r l) = codesOf v (ix2 r l) * thr (byte1 (ratio v (ix2 r l))) := by
  have hb := byte1_bounds (ratio v (ix2 r l))
  pointwise [decoded]
  rw [scaleOf_at v r l hp, shl_thr _ (by omega) (by omega)]

end Cert.KernelIdeal.Moe
end
-- ==== Proof.BlockValue.lean ====
/- What one grid point leaves, at an index, over the extended reals: the codes, the scale bytes and the result of each row. -/
module

public import proofs.«01_k».proof.Proof.QuantValue

@[expose] public section

set_option maxRecDepth 16384

noncomputable section

namespace Cert.KernelIdeal.Moe

open Idealize.ShloMosaic Idealize.ShloMosaic.TcCoe Idealize.ShloMosaic.Scf
open Cert.KernelIdeal Cert.Moe
open Facts₀ Facts

/-- The three chunks hold the rows `H` of hidden values, all within the quantiser's exponents. -/
structure Rows (h : Fin 3 → FVec Ideal S128x512 .f32) (H : Fin 128 → Fin 1536 → EReal) : Prop where
  val : ∀ (c : Fin 3) (r : Fin 128) (j : Fin 512), h c (ix2 r j) = H r ⟨512 * c.val + j.val, by omega⟩
  small : ∀ r, Small (H r)

variable {h : Fin 3 → FVec Ideal S128x512 .f32} {H : Fin 128 → Fin 1536 → EReal}

theorem lanes_at (hH : Rows h H) (c : Fin 3) (t : Fin 4) (r l : Fin 128) :
    lanes (h c) t (ix2 r l) = H r ⟨512 * c.val + (128 * t.val + l.val), by omega⟩ := by
  have e : lanes (h c) t (ix2 r l) = h c (ix2 r ⟨128 * t.val + l.val, by omega⟩) := by pointwise [lanes]
  rw [e, hH.val]

/-- The group of a lane. -/
theorem ratio_at (hH : Rows h H) (c : Fin 3) (t : Fin 4) (r l : Fin 128) :
    ratio (lanes (h c) t) (ix2 r l) = ratio1 (H r) ⟨(512 * c.val + (128 * t.val + l.val)) / 32, by omega⟩ := by
  show amax (lanes (h c) t) (ix2 r l) * _ = _
  rw [amax_at]
  refine congrArg (· * over448) (congrArg (Finset.univ.sup (α := EReal)) (funext fun o => ?_))
  rw [lanes_at hH]
  have e : (⟨512 * c.val + (128 * t.val + (32 * (l.val / 32) + o.val)), by omega⟩ : Fin 1536)
      = ⟨32 * ((512 * c.val + (128 * t.val + l.val)) / 32) + o.val, by omega⟩ := Fin.ext (by
    show 512 * c.val + (128 * t.val + (32 * (l.val / 32) + o.val)) = 32 * ((512 * c.val + (128 * t.val + l.val)) / 32) + o.val
    omega)
  exact congrArg (fun f => max (H r f) (-(H r f))) e

theorem ratio_small (hH : Rows h H) (c : Fin 3) (t : Fin 4) (r l : Fin 128) : ratio (lanes (h c) t) (ix2 r l) < thr 253 := by
  rw [ratio_at hH]
  exact hH.small _ _

theorem codes_at (hH : Rows h H) (c : Fin 3) (t : Fin 4) (r l : Fin 128) :
    codesOf (lanes (h c) t) (ix2 r l) = code1 (H r) ⟨512 * c.val + (128 * t.val + l.val), by omega⟩ := by
  rw [codesOf_at _ _ _ (ratio_small hH c t r l), lanes_at hH, ratio_at hH]
  rfl

/-- The block of codes. -/
theorem codeBlock_at (hH : Rows h H) (r : Fin 128) (f : Fin 1536) : codeBlock h (ix2 r f) = code1 (H r) f := by
  show codesOf (lanes (h ⟨f.val / 512, _⟩) ⟨f.val % 512 / 128, _⟩) (ix2 r ⟨f.val % 128, _⟩) = _
  rw [codes_at hH]
  refine congrArg (code1 (H r)) (Fin.ext ?_)
  show 512 * (f.val / 512) + (128 * (f.val % 512 / 128) + f.val % 128) = f.val
  omega

/-! ## Scale bytes -/

theorem scale_at (hH : Rows h H) (c : Fin 3) (t : Fin 4) (r l : Fin 128) :
    scaleOf (lanes (h c) t) (ix2 r l) = BitVec.ofNat 32 (scale1 (H r) ⟨(512 * c.val + (128 * t.val + l.val)) / 32, by omega⟩) := by
  rw [scaleOf_at _ _ _ (ratio_small hH c t r l), ratio_at hH]
  rfl

theorem place_word : ∀ (l : Fin 128) (t : Fin 12), IntOp.cmpi .eq (BitVec.ofNat 32 (l.val / 4)) (BitVec.ofNat 32 t.val) = if l.val / 4 = t.val then 1#1 else 0#1 := by
  decide +kernel

/-- Placing tile `t`'s scales: lanes `4 t .. 4 t + 3` hold them, the others what they held. -/
theorem place_at (out s : IVec S128x128 32) (t : Fin 12) (r l : Fin 128) :
    place out s t (ix2 r l) = if l.val / 4 = t.val then s (ix2 r ⟨32 * (l.val % 4), by omega⟩) else out (ix2 r l) := by
  show Scalar.select (IntOp.cmpi .eq (laneDiv 4#32 (ix2 r l)) (BitVec.ofNat 32 t.val)) (dynamicGather 1 s (wrap (muli laneMod4 (broadcast S128x128 32#32))) (ix2 r l)) (out (ix2 r l)) = _
  rw [laneDiv4_at, place_word, gather_at s _ r l ⟨32 * (l.val % 4), by omega⟩ (laneMod4_at r l)]
  split <;> rfl

/-- After tile `t` is placed, the lanes of the tiles up to `t` hold the wanted word. -/
theorem place_step (out s : IVec S128x128 32) (t : Fin 12) (n : ℕ) (hn : t.val + 1 = n) (r l : Fin 128) (B : BitVec 32)
    (hs : l.val / 4 = t.val → s (ix2 r ⟨32 * (l.val % 4), by omega⟩) = B) (ho : l.val / 4 < t.val → out (ix2 r l) = B) :
    l.val / 4 < n → place out s t (ix2 r l) = B := fun h => by
  rw [place_at]
  split
  · next e => exact hs e
  · next e => exact ho (by omega)

theorem byte_word : ∀ n : Fin 254, (BitVec.ofNat 32 n.val).setWidth 8 = BitVec.ofNat 8 n.val := by decide +kernel

/-- The block of scale bytes. -/
theorem scaleBlock_at (hH : Rows h H) (r : Fin 128) (g : Fin 48) : scaleBlock h (ix2 r g) = BitVec.ofNat 8 (scale1 (H r) g) := by
  have hb := byte1_bounds (ratio1 (H r) g)
  have hleaf : ∀ (c : Fin 3) (t : Fin 4), g.val / 4 = 4 * c.val + t.val →
      scaleOf (lanes (h c) t) (ix2 r ⟨32 * (g.val % 4), by omega⟩) = BitVec.ofNat 32 (scale1 (H r) g) := fun c t e => by
    rw [scale_at hH]
    refine congrArg (fun g => BitVec.ofNat 32 (scale1 (H r) g)) (Fin.ext ?_)
    show (512 * c.val + (128 * t.val + 32 * (g.val % 4))) / 32 = g.val
    omega
  refine Eq.trans ?_ (byte_word ⟨scale1 (H r) g, by unfold scale1; omega⟩)
  pointwise [scaleBlock, scaleBytes]
  refine congrArg (BitVec.setWidth 8) ?_
  let l : Fin 128 := ⟨g.val, by omega⟩
  have p0 := place_step (broadcast S128x128 0#32) _ 0 1 rfl r l _ (hleaf 0 0) (fun h => absurd h (Nat.not_lt_zero _))
  have p1 := place_step _ _ 1 2 rfl r l _ (hleaf 0 1) p0
  have p2 := place_step _ _ 2 3 rfl r l _ (hleaf 0 2) p1
  have p3 := place_step _ _ 3 4 rfl r l _ (hleaf 0 3) p2
  have p4 := place_step _ _ 4 5 rfl r l _ (hleaf 1 0) p3
  have p5 := place_step _ _ 5 6 rfl r l _ (hleaf 1 1) p4
  have p6 := place_step _ _ 6 7 rfl r l _ (hleaf 1 2) p5
  have p7 := place_step _ _ 7 8 rfl r l _ (hleaf 1 3) p6
  have p8 := place_step _ _ 8 9 rfl r l _ (hleaf 2 0) p7
  have p9 := place_step _ _ 9 10 rfl r l _ (hleaf 2 1) p8
  have p10 := place_step _ _ 10 11 rfl r l _ (hleaf 2 2) p9
  exact place_step _ _ 11 12 rfl r l _ (hleaf 2 3) p10 (by show g.val / 4 < 12; omega)

/-! ## The result -/

/-- A chunk quantised and decoded. -/
theorem hidden_at (hH : Rows h H) (c : Fin 3) (r : Fin 128) (j : Fin 512) :
    hidden (h c) (ix2 r j) = decoded1 (H r) ⟨512 * c.val + j.val, by omega⟩ := by
  unfold hidden
  refine (concatenate_ofFn_apply (s₁ := S128x128) (t := S128x512) 1 (fun t : Fin 4 => decoded (lanes (h c) t)) _ rfl 128 rfl (ix2 r j) ⟨j.val / 128, by omega⟩ rfl
    (ix2 r (⟨j.val % 128, Nat.mod_lt _ (by decide)⟩ : Fin 128)) rfl (fun b hb => ?_)).trans ?_
  · match b with
    | 0 => rfl
    | 1 => exact absurd rfl hb
  · rw [decoded_at _ _ _ (ratio_small hH c _ r _), codes_at hH, ratio_at hH]
    have e : 512 * c.val + (128 * (j.val / 128) + j.val % 128) = 512 * c.val + j.val := by omega
    simp only [e]
    rfl

theorem words_tile2 (W : IVec S48x3072 32) (S : Fin 48 → Fin 3072 → BitVec 8) (hw : Words W S) (c : Fin 3) (n : Fin 6) (k : Fin 2) :
    Words (tileS2 W c n k) fun i j => S ⟨16 * c.val + 8 * k.val + i.val, by omega⟩ ⟨512 * n.val + j.val, by omega⟩ := fun i j =>
  ⟨(window_at _ _ _ _ _ _ ⟨16 * c.val + 8 * k.val + i.val, by omega⟩ ⟨512 * n.val + j.val, by omega⟩ rfl rfl).trans (hw _ _).1, (hw _ _).2⟩

/-- One half of a chunk's part of an entry of the result. -/
def partSum (D : Fin 1536 → EReal) (w : Fin 1536 → EReal) (sw : Fin 48 → BitVec 8) (c : Fin 3) (k : Fin 2) : EReal :=
  ∑ i : Fin 256, D ⟨(2 * c.val + k.val) * 256 + i.val, by omega⟩ * (w ⟨(2 * c.val + k.val) * 256 + i.val, by omega⟩
    * thr (sw ⟨((2 * c.val + k.val) * 256 + i.val) / 32, by omega⟩).toNat)

theorem mac2_at (hH : Rows h H) (a : FVec Ideal S128x512 .f32) (x4 : Vec Ideal S1536x3072 .fp8e4m3) (W : IVec S48x3072 32)
    (S : Fin 48 → Fin 3072 → BitVec 8) (hw : Words W S) (c : Fin 3) (n : Fin 6) (k : Fin 2) (r : Fin 128) (j : Fin 512) :
    mac a (half (hidden (h c)) k) (tileW2 x4 c n k) (tileS2 W c n k) (ix2 r j)
      = a (ix2 r j) + partSum (decoded1 (H r)) (fun f => x4 (ix2 f ⟨512 * n.val + j.val, by omega⟩)) (fun g => S g ⟨512 * n.val + j.val, by omega⟩) c k := by
  rw [mac_at _ _ _ _ _ (words_tile2 W S hw c n k)]
  refine congrArg (_ + ·) (Finset.sum_congr rfl fun i _ => ?_)
  have e1 : half (hidden (h c)) k (ix2 r i) = decoded1 (H r) ⟨(2 * c.val + k.val) * 256 + i.val, by omega⟩ := by
    have e : half (hidden (h c)) k (ix2 r i) = hidden (h c) (ix2 r ⟨256 * k.val + i.val, by omega⟩) := by pointwise [half]
    rw [e, hidden_at hH]
    exact congrArg (decoded1 (H r)) (Fin.ext (by show 512 * c.val + (256 * k.val + i.val) = (2 * c.val + k.val) * 256 + i.val; omega))
  have e2 : tileW2 x4 c n k (ix2 i j) = x4 (ix2 ⟨(2 * c.val + k.val) * 256 + i.val, by omega⟩ ⟨512 * n.val + j.val, by omega⟩) :=
    window_at _ _ _ _ _ _ _ _ (by show (2 * c.val + k.val) * 256 + i.val = 512 * c.val + 256 * k.val + i.val; omega) rfl
  have e3 : (⟨16 * c.val + 8 * k.val + i.val / 32, by omega⟩ : Fin 48) = ⟨((2 * c.val + k.val) * 256 + i.val) / 32, by omega⟩ :=
    Fin.ext (by show 16 * c.val + 8 * k.val + i.val / 32 = ((2 * c.val + k.val) * 256 + i.val) / 32; omega)
  rw [e1, e2]
  exact congrArg (fun g => _ * (_ * thr (S g _).toNat)) e3

/-- The block of the result. -/
theorem resultBlock_at (hH : Rows h H) (x4 : Vec Ideal S1536x3072 .fp8e4m3) (W : IVec S48x3072 32) (S : Fin 48 → Fin 3072 → BitVec 8) (hw : Words W S)
    (r : Fin 128) (d : Fin 3072) :
    resultBlock x4 W h (ix2 r d) = out1 (H r) (fun f => x4 (ix2 f d)) (fun g => S g d) := by
  let n : Fin 6 := ⟨d.val / 512, by omega⟩
  let j : Fin 512 := ⟨d.val % 512, Nat.mod_lt _ (by decide)⟩
  have ed : (⟨512 * n.val + j.val, by omega⟩ : Fin 3072) = d := Fin.ext (by show 512 * (d.val / 512) + d.val % 512 = d.val; omega)
  show (part x4 W 0 n (hidden (h 0)) (ix2 r j) + part x4 W 1 n (hidden (h 1)) (ix2 r j)) + part x4 W 2 n (hidden (h 2)) (ix2 r j) = _
  unfold part
  simp only [mac2_at hH _ x4 W S hw, zero512_at, zero_add, ed]
  unfold out1
  rw [← Fin.sum_mul_add_fin 6 256 (fun f : Fin 1536 => decoded1 (H r) f * (x4 (ix2 f d) * thr (S ⟨f.val / 32, by omega⟩ d).toNat)) rfl]
  simp only [Fin.sum_univ_succ (n := 5), Fin.sum_univ_succ (n := 4), Fin.sum_univ_succ (n := 3), Fin.sum_univ_succ (n := 2), Fin.sum_univ_succ (n := 1), Fin.sum_univ_succ (n := 0), Fin.sum_univ_zero, add_zero, ← add_assoc]
  rfl

/-! ## The second-layer scale words -/

theorem parity_word : ∀ b : Fin 40, (isMod2 (BitVec.ofNat 32 b.val) 1#32 = 1#1) ↔ b.val % 2 = 1 := by decide +kernel

/-- An expert's second-layer scale words: those of its half of the pair's bytes. -/
theorem words2Of_words (x5 : Vec Ideal S96x3072 .i8) (h5 : ∀ i j, 1 ≤ (x5 (ix2 i j)).toNat ∧ (x5 (ix2 i j)).toNat ≤ 254) (b : Fin 40) :
    Words (words2Of (F := Ideal) (BitVec.ofNat 32 b.val) x5) fun i j => x5 (ix2 ⟨48 * (b.val % 2) + i.val, by omega⟩ j) := fun i j => by
  refine ⟨?_, h5 _ _⟩
  unfold words2Of
  by_cases hb : b.val % 2 = 1
  · rw [if_pos ((parity_word b).mpr hb), ← words2_at]
    pointwise
    simp only [hb, Nat.mul_one]
  · have h0 : b.val % 2 = 0 := by omega
    rw [if_neg (fun h => hb ((parity_word b).mp h)), ← words2_at]
    pointwise
    simp only [h0, Nat.mul_zero, Nat.zero_add]

end Cert.KernelIdeal.Moe
end
-- ==== Proof.Arrays.lean ====
/- The three results as functions of the arguments, in plain mathematics: which row and which expert's columns an element
   comes from. -/
module

public import proofs.«01_k».proof.Proof.Spec

@[expose] public section

noncomputable section

namespace Cert.Moe

open Idealize.ShloMosaic

/-- The arguments: code bytes and scale bytes of the rows and of the two weights, and the expert of each block of 128 rows. -/
structure Args where
  x : Fin 6144 → Fin 3072 → BitVec 8
  sx : Fin 6144 → Fin 96 → BitVec 8
  w1 : Fin 3072 → Fin 61440 → BitVec 8
  s1 : Fin 96 → Fin 61440 → BitVec 8
  w2 : Fin 61440 → Fin 3072 → BitVec 8
  s2 : Fin 1920 → Fin 3072 → BitVec 8
  expert : Fin 48 → Fin 40

/-- The number that a code byte spells. -/
abbrev f8 (c : BitVec 8) : EReal := Ideal.ofBits .fp8e4m3 c

/-- What is asked of the arguments' bytes. -/
structure Args.Good (A : Args) : Prop where
  x : ∀ i j, A.x i j ≠ 127#8 ∧ A.x i j ≠ 255#8
  w1 : ∀ i j, A.w1 i j ≠ 127#8 ∧ A.w1 i j ≠ 255#8
  sx : ∀ i j, 1 ≤ (A.sx i j).toNat ∧ (A.sx i j).toNat ≤ 179
  s1 : ∀ i j, 1 ≤ (A.s1 i j).toNat ∧ (A.s1 i j).toNat ≤ 179
  s2 : ∀ i j, 1 ≤ (A.s2 i j).toNat ∧ (A.s2 i j).toNat ≤ 254

variable (A : Args)

/-- A row of a block. -/
def row (b : Fin 48) (r : Fin 128) : Fin 6144 := ⟨128 * b.val + r.val, by omega⟩

/-- A column of an expert's hidden values. -/
def col (e : Fin 40) (f : Fin 1536) : Fin 61440 := ⟨1536 * e.val + f.val, by omega⟩

/-- A row of an expert's second scales. -/
def grp (e : Fin 40) (g : Fin 48) : Fin 1920 := ⟨48 * e.val + g.val, by omega⟩

/-- The hidden values of a row of block `b`. -/
def Args.hid (b : Fin 48) (r : Fin 128) (f : Fin 1536) : EReal :=
  gelu1 (dot1 (fun k => f8 (A.x (row b r) k)) (A.sx (row b r)) (fun k => f8 (A.w1 k (col (A.expert b) f))) (fun g => A.s1 g (col (A.expert b) f)))

/-- Every hidden value is gelu of a bounded real number, so its groups' exponents are in range. -/
theorem Args.small (hA : A.Good) (b : Fin 48) (r : Fin 128) : Small (A.hid b r) := small_of _ fun f => by
  obtain ⟨d, hd, hb⟩ := dot1_real (fun k => f8 (A.x (row b r) k)) (A.sx (row b r)) (fun k => f8 (A.w1 k (col (A.expert b) f)))
    (fun g => A.s1 g (col (A.expert b) f)) (fun k => code_real _ (hA.x _ _).1 (hA.x _ _).2) (fun k => code_real _ (hA.w1 _ _).1 (hA.w1 _ _).2)
    (fun g => (hA.sx _ _).2) (fun g => (hA.s1 _ _).2)
  exact ⟨d, congrArg gelu1 hd, hb⟩

/-- An element of the result, by block, row of the block and column. -/
def Args.res (b : Fin 48) (r : Fin 128) (d : Fin 3072) : EReal :=
  out1 (A.hid b r) (fun f => f8 (A.w2 (col (A.expert b) f) d)) (fun g => A.s2 (grp (A.expert b) g) d)

/-- A code of the quantised hidden values. -/
def Args.code (b : Fin 48) (r : Fin 128) (f : Fin 1536) : EReal := code1 (A.hid b r) f

/-- A scale byte of the quantised hidden values. -/
def Args.scale (b : Fin 48) (r : Fin 128) (g : Fin 48) : BitVec 8 := BitVec.ofNat 8 (scale1 (A.hid b r) g)

/-- The block that a row belongs to, and the row's place in it. -/
def blk (i : Fin 6144) : Fin 48 := ⟨i.val / 128, by omega⟩
def sub (i : Fin 6144) : Fin 128 := ⟨i.val % 128, Nat.mod_lt _ (by decide)⟩

theorem blk_row (b : Fin 48) (r : Fin 128) : blk (row b r) = b := Fin.ext (by show (128 * b.val + r.val) / 128 = b.val; omega)
theorem sub_row (b : Fin 48) (r : Fin 128) : sub (row b r) = r := Fin.ext (by show (128 * b.val + r.val) % 128 = r.val; omega)
theorem row_blk (i : Fin 6144) : row (blk i) (sub i) = i := Fin.ext (by show 128 * (i.val / 128) + i.val % 128 = i.val; omega)

end Cert.Moe
end
-- ==== Proof.KernelArray.lean ====
/- What the kernel's three arrays hold after the run, in terms of its arguments. -/
module

public import proofs.«01_k».proof.Proof.KernelBlocks
public import proofs.«01_k».proof.Proof.BlockValue
public import proofs.«01_k».proof.Proof.Arrays

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Moe

variable (m : (ℓ : Loc nD τ sig) → Buf (Elt Ideal) ℓ)

variable {m} in
/-- The arguments as device `c` holds them; the experts are read off the first columns of each block. -/
def args (h : Cols (m ((0 : Dev nD).tc.loc main_arg6))) (c : Dev nD) : Args where
  x i j := (m ((c : Thread nD τ).loc main_arg0) : IVec S6144x3072 8) (ix2 i j)
  sx i j := (m ((c : Thread nD τ).loc main_arg1) : IVec S6144x96 8) (ix2 i j)
  w1 i j := (m ((c : Thread nD τ).loc main_arg2) : IVec S3072x61440 8) (ix2 i j)
  s1 i j := (m ((c : Thread nD τ).loc main_arg3) : IVec S96x61440 8) (ix2 i j)
  w2 i j := (m ((c : Thread nD τ).loc main_arg4) : IVec S61440x3072 8) (ix2 i j)
  s2 i j := (m ((c : Thread nD τ).loc main_arg5) : IVec S1920x3072 8) (ix2 i j)
  expert b := ⟨blockOf h b, blockOf_lt h b⟩

/-- The point as a block number. -/
abbrev bpt (hO : Ok m) (t : Fin (cfgM m hO).N) : Fin 48 := pt (grid0.coords t)

variable {m}

/-- A scale byte of the rows' block. -/
theorem iblk_1' (h : Cols (m ((0 : Dev nD).tc.loc main_arg6))) (hO : Ok m) (c : Dev nD) (t : Fin (cfgM m hO).N) (r : Fin 128) (k : Fin 96) :
    iblk m hO c 1 t (ix2 r k) = (args h c).sx (row (bpt m hO t) r) k :=
  (iblk_1 hO c t r k).trans (congrFun (V_arg m c main_arg1 (by decide)) _)

theorem iblk_0' (h : Cols (m ((0 : Dev nD).tc.loc main_arg6))) (hO : Ok m) (c : Dev nD) (t : Fin (cfgM m hO).N) (r : Fin 128) (k : Fin 3072) :
    iblk m hO c 0 t (ix2 r k) = f8 ((args h c).x (row (bpt m hO t) r) k) :=
  (iblk_0 hO c t r k).trans (congrFun (V_v0 m c) _)

theorem iblk_2' (h : Cols (m ((0 : Dev nD).tc.loc main_arg6))) (hO : Ok m) (c : Dev nD) (t : Fin (cfgM m hO).N) (k : Fin 3072) (f : Fin 1536) :
    iblk m hO c 2 t (ix2 k f) = f8 ((args h c).w1 k (col ((args h c).expert (bpt m hO t)) f)) :=
  (iblk_2 h hO c t k f).trans (congrFun (V_v1 m c) _)

theorem iblk_3' (h : Cols (m ((0 : Dev nD).tc.loc main_arg6))) (hO : Ok m) (c : Dev nD) (t : Fin (cfgM m hO).N) (k : Fin 96) (f : Fin 1536) :
    iblk m hO c 3 t (ix2 k f) = (args h c).s1 k (col ((args h c).expert (bpt m hO t)) f) :=
  (iblk_3 h hO c t k f).trans (congrFun (V_arg m c main_arg3 (by decide)) _)

theorem iblk_4' (h : Cols (m ((0 : Dev nD).tc.loc main_arg6))) (hO : Ok m) (c : Dev nD) (t : Fin (cfgM m hO).N) (f : Fin 1536) (d : Fin 3072) :
    iblk m hO c 4 t (ix2 f d) = f8 ((args h c).w2 (col ((args h c).expert (bpt m hO t)) f) d) :=
  (iblk_4 h hO c t f d).trans (congrFun (V_v2 m c) _)

theorem iblk_5' (h : Cols (m ((0 : Dev nD).tc.loc main_arg6))) (hO : Ok m) (c : Dev nD) (t : Fin (cfgM m hO).N) (g : Fin 96) (d : Fin 3072) :
    iblk m hO c 5 t (ix2 g d) = (args h c).s2 ⟨96 * (blockOf h (bpt m hO t) / 2) + g.val, by have := blockOf_lt h (bpt m hO t); omega⟩ d :=
  (iblk_5 h hO c t g d).trans (congrFun (V_arg m c main_arg5 (by decide)) _)

/-- A chunk of hidden values, from blocks whose elements are known. -/
theorem chunk_of (x0 : Vec Ideal S128x3072 .fp8e4m3) (x1 : Vec Ideal S128x96 .i8) (x2 : Vec Ideal S3072x1536 .fp8e4m3) (x3 : Vec Ideal S96x1536 .i8)
    (X : Fin 128 → Fin 3072 → EReal) (SX : Fin 128 → Fin 96 → BitVec 8) (W : Fin 3072 → Fin 1536 → EReal) (S : Fin 96 → Fin 1536 → BitVec 8)
    (h0 : ∀ r k, x0 (ix2 r k) = X r k) (h1 : ∀ r k, x1 (ix2 r k) = SX r k) (h2 : ∀ k f, x2 (ix2 k f) = W k f) (h3 : ∀ k f, x3 (ix2 k f) = S k f)
    (b1 : ∀ r k, 1 ≤ (SX r k).toNat ∧ (SX r k).toNat ≤ 254) (b3 : ∀ k f, 1 ≤ (S k f).toNat ∧ (S k f).toNat ≤ 254) (ch : Fin 3) (r : Fin 128) (j : Fin 512) :
    chunk (F := Ideal) x0 x1 x2 x3 ch (ix2 r j) = gelu1 (dot1 (fun k => X r k) (fun g => SX r g)
      (fun k => W k ⟨512 * ch.val + j.val, by omega⟩) (fun g => S g ⟨512 * ch.val + j.val, by omega⟩)) := by
  rw [chunk_at x0 x1 x2 x3 (fun i j => by rw [h1]; exact b1 i j) (fun i j => by rw [h3]; exact b3 i j)]
  simp only [h0, h1, h2, h3]

/-- The hidden values that the body computes at a point are those of the point's block of rows. -/
theorem rows_at (h : Cols (m ((0 : Dev nD).tc.loc main_arg6))) (hO : Ok m) (c : Dev nD) (hA : (args h c).Good) (t : Fin (cfgM m hO).N) :
    Rows (hid m hO c t) ((args h c).hid (bpt m hO t)) where
  val ch r j := by
    have hs := hA.sx; have h1 := hA.s1
    exact chunk_of (iblk m hO c 0 t) (iblk m hO c 1 t) (iblk m hO c 2 t) (iblk m hO c 3 t) _ _ _ _ (iblk_0' h hO c t) (iblk_1' h hO c t) (iblk_2' h hO c t)
      (iblk_3' h hO c t) (fun i j => by have := hs (row (bpt m hO t) i) j; omega)
      (fun i j => by have := h1 i (col ((args h c).expert (bpt m hO t)) j); omega) ch r j
  small r := (args h c).small hA _ r

/-- The block of codes. -/
theorem out7_at (h : Cols (m ((0 : Dev nD).tc.loc main_arg6))) (hO : Ok m) (c : Dev nD) (hA : (args h c).Good) (t : Fin (cfgM m hO).N) (r : Fin 128) (f : Fin 1536) :
    out7 m hO c t (ix2 r f) = (args h c).code (bpt m hO t) r f := codeBlock_at (rows_at h hO c hA t) r f

/-- The block of scale bytes. -/
theorem out8_at (h : Cols (m ((0 : Dev nD).tc.loc main_arg6))) (hO : Ok m) (c : Dev nD) (hA : (args h c).Good) (t : Fin (cfgM m hO).N) (r : Fin 128) (g : Fin 48) :
    out8 m hO c t (ix2 r g) = (args h c).scale (bpt m hO t) r g := scaleBlock_at (rows_at h hO c hA t) r g

/-- The block of the result, from blocks whose elements are known. -/
theorem result_of {h : Fin 3 → FVec Ideal S128x512 .f32} {H : Fin 128 → Fin 1536 → EReal} (hH : Rows h H) (x4 : Vec Ideal S1536x3072 .fp8e4m3)
    (x5 : Vec Ideal S96x3072 .i8) (W : Fin 1536 → Fin 3072 → EReal) (S : Fin 96 → Fin 3072 → BitVec 8) (h4 : ∀ f d, x4 (ix2 f d) = W f d)
    (h5 : ∀ g d, x5 (ix2 g d) = S g d) (hS : ∀ g d, 1 ≤ (S g d).toNat ∧ (S g d).toNat ≤ 254) (b : Fin 40) (r : Fin 128) (d : Fin 3072) :
    resultBlock x4 (words2Of (F := Ideal) (BitVec.ofNat 32 b.val) x5) h (ix2 r d)
      = out1 (H r) (fun f => W f d) (fun g => S ⟨48 * (b.val % 2) + g.val, by omega⟩ d) := by
  rw [resultBlock_at hH x4 _ _ (words2Of_words x5 (fun i j => by rw [h5]; exact hS i j) b)]
  simp only [h4, h5]

/-- The block of the result. -/
theorem out6_at (h : Cols (m ((0 : Dev nD).tc.loc main_arg6))) (hO : Ok m) (c : Dev nD) (hA : (args h c).Good) (t : Fin (cfgM m hO).N) (r : Fin 128) (d : Fin 3072) :
    out6 m hO c t (ix2 r d) = (args h c).res (bpt m hO t) r d := by
  have hb := blockOf_lt h (bpt m hO t)
  unfold out6
  rw [expert_eq h]
  refine (result_of (rows_at h hO c hA t) (iblk m hO c 4 t) (iblk m hO c 5 t) _ _ (fun f d => iblk_4' h hO c t f d) (fun g d => iblk_5' h hO c t g d)
    (fun _ _ => hA.s2 _ _) ⟨blockOf h (bpt m hO t), hb⟩ r d).trans ?_
  refine congrArg (out1 _ _) (funext fun g => congrArg (fun i => (args h c).s2 i d) (Fin.ext ?_))
  show 96 * (blockOf h (bpt m hO t) / 2) + (48 * (blockOf h (bpt m hO t) % 2) + g.val) = 48 * blockOf h (bpt m hO t) + g.val
  omega

/-- The grid has one axis: a point's coordinate is its number. -/
theorem pt_coords : ∀ t : Fin grid0.N, (pt (grid0.coords t)).val = t.val := by decide +kernel

/-- A function of a row's block and place, at a row of a block. -/
theorem at_row {α : Type} (f : Fin 48 → Fin 128 → α) (b : Fin 48) (r : Fin 128) : f (blk (row b r)) (sub (row b r)) = f b r := by
  rw [blk_row, sub_row]

theorem flush_6 (hO : Ok m) (t : Fin (cfgM m hO).N) : ((cfgM m hO).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true) t

theorem covers_6 (hO : Ok m) : ((cfgM m hO).win 6).Covers := by
  refine ⟨fun a => ?_, fun β => ⟨(β (0 : Fin 2)).cast (show (6144 + 128 - 1) / 128 = grid0.N by decide), flush_6 hO _, fun a => ⟨?_, .inl rfl⟩⟩⟩
  · match a with
    | ⟨0, _⟩ => show 0 < 128; decide
    | ⟨1, _⟩ => show 0 < 3072; decide
  · refine (congrFun (ix_6 _) a).trans ?_
    match a with
    | ⟨0, _⟩ => exact pt_coords _
    | ⟨1, _⟩ => exact (Nat.lt_one_iff.mp (show (β (1 : Fin 2)).val < (3072 + 3072 - 1) / 3072 from (β (1 : Fin 2)).isLt)).symm

/-- The array of the result after the run. -/
theorem array_6 (h : Cols (m ((0 : Dev nD).tc.loc main_arg6))) (hO : Ok m) (c : Dev nD) (hA : (args h c).Good) :
    (dats m hO 0 c).arrAt 6 (cfgM m hO).N = fun j : S6144x3072.Idx => (args h c).res (blk (j 0)) (sub (j 0)) (j 1) := by
  refine (dats m hO 0 c).arrAt_eq_of_covers 6 _ (covers_6 hO) fun t _ y => ?_
  rw [after_6]
  refine (congrArg (out6 m hO c t) (show _ = ix2 (y (0 : Fin 2)) (y (1 : Fin 2)) from funext fun a => ?_)).trans ((out6_at h hO c hA t (y (0 : Fin 2)) (y (1 : Fin 2))).trans ?_)
  · match a with
    | ⟨0, _⟩ => rfl
    | ⟨1, _⟩ => rfl
  · have e0 : (((cfgM m hO).win 6).blk t).view.emb y (0 : Fin 2) = row (bpt m hO t) (y (0 : Fin 2)) := Fin.ext (by
      refine (emb_6 hO t y (0 : Fin 2)).trans ?_
      rw [ix_6]; exact congrArg (· + (y (0 : Fin 2)).val) (Nat.mul_comm _ _))
    have e1 : (((cfgM m hO).win 6).blk t).view.emb y (1 : Fin 2) = y (1 : Fin 2) := Fin.ext (by
      refine (emb_6 hO t y (1 : Fin 2)).trans ?_
      rw [ix_6]; exact (congrArg (· + (y (1 : Fin 2)).val) (Nat.zero_mul _)).trans (Nat.zero_add _))
    show _ = (args h c).res (blk ((((cfgM m hO).win 6).blk t).view.emb y (0 : Fin 2))) (sub ((((cfgM m hO).win 6).blk t).view.emb y (0 : Fin 2))) ((((cfgM m hO).win 6).blk t).view.emb y (1 : Fin 2))
    rw [e0, e1]
    exact (congrFun (at_row (args h c).res (bpt m hO t) (y (0 : Fin 2))) (y (1 : Fin 2))).symm

theorem flush_7 (hO : Ok m) (t : Fin (cfgM m hO).N) : ((cfgM m hO).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true) t

theorem covers_7 (hO : Ok m) : ((cfgM m hO).win 7).Covers := by
  refine ⟨fun a => ?_, fun β => ⟨(β (0 : Fin 2)).cast (show (6144 + 128 - 1) / 128 = grid0.N by decide), flush_7 hO _, fun a => ⟨?_, .inl rfl⟩⟩⟩
  · match a with
    | ⟨0, _⟩ => show 0 < 128; decide
    | ⟨1, _⟩ => show 0 < 1536; decide
  · refine (congrFun (ix_7 _) a).trans ?_
    match a with
    | ⟨0, _⟩ => exact pt_coords _
    | ⟨1, _⟩ => exact (Nat.lt_one_iff.mp (show (β (1 : Fin 2)).val < (1536 + 1536 - 1) / 1536 from (β (1 : Fin 2)).isLt)).symm

/-- The array of the codes after the run. -/
theorem array_7 (h : Cols (m ((0 : Dev nD).tc.loc main_arg6))) (hO : Ok m) (c : Dev nD) (hA : (args h c).Good) :
    (dats m hO 0 c).arrAt 7 (cfgM m hO).N = fun j : S6144x1536.Idx => (args h c).code (blk (j 0)) (sub (j 0)) (j 1) := by
  refine (dats m hO 0 c).arrAt_eq_of_covers 7 _ (covers_7 hO) fun t _ y => ?_
  rw [after_7]
  refine (congrArg (out7 m hO c t) (show _ = ix2 (y (0 : Fin 2)) (y (1 : Fin 2)) from funext fun a => ?_)).trans ((out7_at h hO c hA t (y (0 : Fin 2)) (y (1 : Fin 2))).trans ?_)
  · match a with
    | ⟨0, _⟩ => rfl
    | ⟨1, _⟩ => rfl
  · have e0 : (((cfgM m hO).win 7).blk t).view.emb y (0 : Fin 2) = row (bpt m hO t) (y (0 : Fin 2)) := Fin.ext (by
      refine (emb_7 hO t y (0 : Fin 2)).trans ?_
      rw [ix_7]; exact congrArg (· + (y (0 : Fin 2)).val) (Nat.mul_comm _ _))
    have e1 : (((cfgM m hO).win 7).blk t).view.emb y (1 : Fin 2) = y (1 : Fin 2) := Fin.ext (by
      refine (emb_7 hO t y (1 : Fin 2)).trans ?_
      rw [ix_7]; exact (congrArg (· + (y (1 : Fin 2)).val) (Nat.zero_mul _)).trans (Nat.zero_add _))
    show _ = (args h c).code (blk ((((cfgM m hO).win 7).blk t).view.emb y (0 : Fin 2))) (sub ((((cfgM m hO).win 7).blk t).view.emb y (0 : Fin 2))) ((((cfgM m hO).win 7).blk t).view.emb y (1 : Fin 2))
    rw [e0, e1]
    exact (congrFun (at_row (args h c).code (bpt m hO t) (y (0 : Fin 2))) (y (1 : Fin 2))).symm

theorem flush_8 (hO : Ok m) (t : Fin (cfgM m hO).N) : ((cfgM m hO).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true) t

theorem covers_8 (hO : Ok m) : ((cfgM m hO).win 8).Covers := by
  refine ⟨fun a => ?_, fun β => ⟨(β (0 : Fin 2)).cast (show (6144 + 128 - 1) / 128 = grid0.N by decide), flush_8 hO _, fun a => ⟨?_, .inl rfl⟩⟩⟩
  · match a with
    | ⟨0, _⟩ => show 0 < 128; decide
    | ⟨1, _⟩ => show 0 < 48; decide
  · refine (congrFun (ix_8 _) a).trans ?_
    match a with
    | ⟨0, _⟩ => exact pt_coords _
    | ⟨1, _⟩ => exact (Nat.lt_one_iff.mp (show (β (1 : Fin 2)).val < (48 + 48 - 1) / 48 from (β (1 : Fin 2)).isLt)).symm

/-- The array of the scale bytes after the run. -/
theorem array_8 (h : Cols (m ((0 : Dev nD).tc.loc main_arg6))) (hO : Ok m) (c : Dev nD) (hA : (args h c).Good) :
    (dats m hO 0 c).arrAt 8 (cfgM m hO).N = fun j : S6144x48.Idx => (args h c).scale (blk (j 0)) (sub (j 0)) (j 1) := by
  refine (dats m hO 0 c).arrAt_eq_of_covers 8 _ (covers_8 hO) fun t _ y => ?_
  rw [after_8]
  refine (congrArg (out8 m hO c t) (show _ = ix2 (y (0 : Fin 2)) (y (1 : Fin 2)) from funext fun a => ?_)).trans ((out8_at h hO c hA t (y (0 : Fin 2)) (y (1 : Fin 2))).trans ?_)
  · match a with
    | ⟨0, _⟩ => rfl
    | ⟨1, _⟩ => rfl
  · have e0 : (((cfgM m hO).win 8).blk t).view.emb y (0 : Fin 2) = row (bpt m hO t) (y (0 : Fin 2)) := Fin.ext (by
      refine (emb_8 hO t y (0 : Fin 2)).trans ?_
      rw [ix_8]; exact congrArg (· + (y (0 : Fin 2)).val) (Nat.mul_comm _ _))
    have e1 : (((cfgM m hO).win 8).blk t).view.emb y (1 : Fin 2) = y (1 : Fin 2) := Fin.ext (by
      refine (emb_8 hO t y (1 : Fin 2)).trans ?_
      rw [ix_8]; exact (congrArg (· + (y (1 : Fin 2)).val) (Nat.zero_mul _)).trans (Nat.zero_add _))
    show _ = (args h c).scale (blk ((((cfgM m hO).win 8).blk t).view.emb y (0 : Fin 2))) (sub ((((cfgM m hO).win 8).blk t).view.emb y (0 : Fin 2))) ((((cfgM m hO).win 8).blk t).view.emb y (1 : Fin 2))
    rw [e0, e1]
    exact (congrFun (at_row (args h c).scale (bpt m hO t) (y (0 : Fin 2))) (y (1 : Fin 2))).symm

end Cert.KernelIdeal.Moe
end
-- ==== Proof.PreValue.lean ====
/- What the precondition says of the arguments: the columns name experts, the scale bytes are in range and no code is the
   fp8 format's NaN. -/
module

public import proofs.«01_k».proof.Proof.Table
public import proofs.«01_k».proof.Proof.Gen.Pre_pre
public import Idealize.ShloMosaic.Lib.ReduceAll

@[expose] public section

set_option maxRecDepth 16384

noncomputable section

namespace Cert.KernelIdeal.Moe

open Idealize.ShloMosaic Idealize.ShloMosaic.TcCoe Idealize.ShloMosaic.Tactic
open Cert.Pre_pre (S6144x3072 S6144x96 S3072x61440 S96x61440 S61440x3072 S1920x3072 S48x12)

instance : Subsingleton Cert.Pre_pre.S_.Idx := ⟨fun _ _ => funext fun a => a.elim0⟩

/-- What the precondition asks, element by element. -/
structure Asked (a0 : IVec S6144x3072 8) (a1 : IVec S6144x96 8) (a2 : IVec S3072x61440 8) (a3 : IVec S96x61440 8)
    (a5 : IVec S1920x3072 8) (a6 : IVec S48x12 32) : Prop where
  cols : Cols a6
  x : ∀ i, a0 i ≠ 127#8 ∧ a0 i ≠ 255#8
  w1 : ∀ i, a2 i ≠ 127#8 ∧ a2 i ≠ 255#8
  sx : ∀ i, 1 ≤ (a1 i).toNat ∧ (a1 i).toNat ≤ 179
  s1 : ∀ i, 1 ≤ (a3 i).toNat ∧ (a3 i).toNat ≤ 179
  s2 : ∀ i, 1 ≤ (a5 i).toNat ∧ (a5 i).toNat ≤ 254

theorem range_of {x lo hi : BitVec 8} (h : IntOp.andi (IntOp.cmpi .uge x lo) (IntOp.cmpi .ule x hi) = 1#1) : lo.toNat ≤ x.toNat ∧ x.toNat ≤ hi.toNat := by
  obtain ⟨h0, h1⟩ := (andi_one _ _).mp h
  have e0 : lo.ule x = true := (StableHlo.Predicate.ofBool_eq_one_iff _).mp h0
  have e1 : x.ule hi = true := (StableHlo.Predicate.ofBool_eq_one_iff _).mp h1
  exact ⟨by simpa [BitVec.ule] using e0, by simpa [BitVec.ule] using e1⟩

theorem differs_of {x y z : BitVec 8} (h : IntOp.andi (IntOp.cmpi .ne x y) (IntOp.cmpi .ne x z) = 1#1) : x ≠ y ∧ x ≠ z := by
  obtain ⟨h0, h1⟩ := (andi_one _ _).mp h
  have e0 : (x != y) = true := (StableHlo.Predicate.ofBool_eq_one_iff _).mp h0
  have e1 : (x != z) = true := (StableHlo.Predicate.ofBool_eq_one_iff _).mp h1
  exact ⟨by simpa using e0, by simpa using e1⟩

/-- The precondition, as the one that it returns. -/
theorem asked_of {F : FTy → Type} [FloatOps F] (a0 a1 a2 a3 a4 a5 a6) (h : Cert.Pre_pre.fn (F := F) a0 a1 a2 a3 a4 a5 a6 = fun _ => 1#1) : Asked a0 a1 a2 a3 a5 a6 := by
  have h := congrFun h (fun a => a.elim0)
  unfold Cert.Pre_pre.fn Cert.Pre_pre.fn_part1 Cert.Pre_pre.fn_part2 Cert.Pre_pre.fn_part3 at h
  dsimp only at h
  obtain ⟨h, hw⟩ := (andi_one _ _).mp h
  obtain ⟨h, hx⟩ := (andi_one _ _).mp h
  obtain ⟨h, h5⟩ := (andi_one _ _).mp h
  obtain ⟨h, h3⟩ := (andi_one _ _).mp h
  obtain ⟨h6, h1⟩ := (andi_one _ _).mp h
  have h6 := Host.reduce_andi_all _ _ _ _ _ h6
  refine ⟨fun r => ?_, fun i => differs_of (Host.reduce_andi_all _ _ _ _ _ hx i), fun i => differs_of (Host.reduce_andi_all _ _ _ _ _ hw i),
    fun i => range_of (Host.reduce_andi_all _ _ _ _ _ h1 i), fun i => range_of (Host.reduce_andi_all _ _ _ _ _ h3 i),
    fun i => range_of (Host.reduce_andi_all _ _ _ _ _ h5 i)⟩
  have key : ∀ j : Fin 12, _ := fun j => h6 (ix2 r j)
  pointwise at key
  simp only [andi_one] at key
  obtain ⟨⟨⟨h0, h1⟩, h2⟩, -⟩ := key 0
  obtain ⟨e, he, hx⟩ := first_of _ h0 h1 h2
  refine ⟨e, he, fun j => ?_⟩
  rw [StableHlo.Predicate.cmpi_eq_iff.mp (key j).2, hx]
  exact (BitVec.ofNat_add ..).symm

end Cert.KernelIdeal.Moe
end
-- ==== Proof.RefValue.lean ====
/- What the reference's kernel call computes, at an index of each of its three blocks. -/
module

public import proofs.«01_k».proof.Proof.Gen.ReferenceIdeal.Frame
public import proofs.«01_k».proof.Proof.Arrays
public import Idealize.ShloMosaic.Lib.Pointwise

@[expose] public section

set_option maxRecDepth 16384

noncomputable section

namespace Cert.ReferenceIdeal.Moe

open Idealize.ShloMosaic Idealize.ShloMosaic.TcCoe Idealize.ShloMosaic.Tactic
open Cert.ReferenceIdeal Cert.ReferenceIdeal.Gen Cert.Moe

/-- A scale byte as the reference spells it: two to the byte less 127. -/
theorem scale_word (s : BitVec 8) :
    FloatOps.exp2 (F := Ideal) (φ := .f32) (FloatOps.sitofp .f32 (IntOp.subi (BitVec.setWidth 32 s) 127#32)) = thr s.toNat := by
  have e : (IntOp.subi (BitVec.setWidth 32 s) 127#32).toInt = (s.toNat : ℤ) - 127 := by
    revert s; decide
  show Ideal.exp2 ((((IntOp.subi (BitVec.setWidth 32 s) 127#32).toInt : ℝ)) : EReal) = _
  rw [exp2_int, e]; rfl

/-- The decoded rows. -/
theorem pay5_at (v0 : Vec Ideal S48x128x3072 .fp8e4m3) (v4 : Vec Ideal S48x128x96 .i8) (b : Fin 48) (r : Fin 128) (k : Fin 3072) :
    k0_pay5 v0 v4 (ix3 b r k) = v0 (ix3 b r k) * thr (v4 (ix3 b r ⟨k.val / 32, by omega⟩)).toNat := by
  pointwise [k0_pay5]
  rw [scale_word]

/-- The decoded first weights. -/
theorem pay6_at (v0 : Vec Ideal S48x3072x1536 .fp8e4m3) (v4 : Vec Ideal S48x96x1536 .i8) (b : Fin 48) (k : Fin 3072) (f : Fin 1536) :
    k0_pay6 v0 v4 (ix3 b k f) = v0 (ix3 b k f) * thr (v4 (ix3 b ⟨k.val / 32, by omega⟩ f)).toNat := by
  pointwise [k0_pay6]
  rw [scale_word]

/-- The decoded second weights. -/
theorem pay9_at (v0 : Vec Ideal S48x1536x3072 .fp8e4m3) (v4 : Vec Ideal S48x48x3072 .i8) (b : Fin 48) (f : Fin 1536) (d : Fin 3072) :
    k0_pay9 (k0_pay7 v0) (k0_pay8 v4) 127#32 (ix3 b f d) = v0 (ix3 b f d) * thr (v4 (ix3 b ⟨f.val / 32, by omega⟩ d)).toNat := by
  pointwise [k0_pay9, k0_pay7, k0_pay8]
  rw [scale_word]

/-- The hidden values. -/
theorem pay10_at (X : FVec Ideal S48x128x3072 .bf16) (W : FVec Ideal S48x3072x1536 .bf16) (b : Fin 48) (r : Fin 128) (g : Fin 48) (o : Fin 32) :
    k0_pay10 X W (ix4 b r g o) = gelu1 (∑ k : Fin 3072, X (ix3 b r k) * W (ix3 b k ⟨32 * g.val + o.val, by omega⟩)) := by
  pointwise [k0_pay10]
  rw [show (⟨g.val * 32 + o.val, by omega⟩ : Fin 1536) = ⟨32 * g.val + o.val, by omega⟩ from Fin.ext (by show g.val * 32 + o.val = 32 * g.val + o.val; omega)]
  unfold gelu1
  rw [mul_comm (∑ x, X (ix3 b r x) * W (ix3 b x _)) ((∑ x, X (ix3 b r x) * W (ix3 b x _)) * (∑ x, X (ix3 b r x) * W (ix3 b x _)))]

end Cert.ReferenceIdeal.Moe
end
-- ==== Proof.RefExponent.lean ====
/- The exponents that the reference chooses: the largest magnitude of a group, and the search over the powers of two. -/
module

public import proofs.«01_k».proof.Proof.Gen.ReferenceIdeal.Frame
public import proofs.«01_k».proof.Proof.Arrays
public import Idealize.ShloMosaic.Lib.Pointwise

@[expose] public section

set_option maxRecDepth 16384

noncomputable section

namespace Cert.ReferenceIdeal.Moe

open Idealize.ShloMosaic Idealize.ShloMosaic.TcCoe Idealize.ShloMosaic.Tactic
open Cert.ReferenceIdeal Cert.ReferenceIdeal.Gen Cert.Moe

/-- The largest magnitudes of the groups. -/
def amaxR (H : FVec Ideal S48x128x48x32 .f32) : FVec Ideal S48x128x48 .f32 :=
  multiReduction .maximumf [3] S48x128x48 (absf H) 0xFF800000#32 reduces_S48x128x48x32_S48x128x48 (.inl rfl) rfl

/-- What the search compares at each power of two. -/
def candR (p : FVec Ideal S48x128x48 .f32) : FVec Ideal S48x128x48x254 .f32 :=
  have v67 : IVec S48x128x48x254 32 := iota .tc S48x128x48x254 32 [3] iota_S48x128x48x254_d3_w32
  have v70 : FVec Ideal S48x128x48x254 .f32 := subf (sitofp .f32 v67) (broadcast S48x128x48x254 (Scalar.ofBits .f32 0x42FC0000#32))
  have v72 : FVec Ideal S48x128x48x1 .f32 := shapeCast S48x128x48x1 p shapeCasts_S48x128x48_S48x128x48x1
  have v73 : FVec Ideal S48x128x48x254 .f32 := broadcastTo S48x128x48x254 v72 broadcasts_S48x128x48x1_S48x128x48x254
  select (cmpf .ole (exp2 v70) v73) (addf v70 (broadcast S48x128x48x254 (Scalar.ofBits .f32 0x3F800000#32))) (broadcast S48x128x48x254 (Scalar.ofBits .f32 0xC2FC0000#32))

/-- The largest of them. -/
def searchR (p : FVec Ideal S48x128x48 .f32) : FVec Ideal S48x128x48 .f32 :=
  multiReduction .maximumf [3] S48x128x48 (candR p) 0xFF800000#32 reduces_S48x128x48x254_S48x128x48 (.inl rfl) rfl

/-- The exponents of the groups' magnitudes over 448. -/
def ratioR (H : FVec Ideal S48x128x48x32 .f32) : FVec Ideal S48x128x48 .f32 :=
  mulf (amaxR H) (broadcast S48x128x48 (Scalar.ofBits .f32 0x3B124925#32))

/-- The reference's exponents, in these terms. -/
theorem pay11_eq (X : FVec Ideal S48x128x3072 .bf16) (W : FVec Ideal S48x3072x1536 .bf16) :
    k0_pay11 X W = select (cmpf .olt (ratioR (k0_pay10 X W)) (broadcast S48x128x48 (Scalar.ofBits .f32 0x00800000#32)))
      (broadcast S48x128x48 (Scalar.ofBits .f32 0x00000000#32)) (searchR (ratioR (k0_pay10 X W))) := rfl

theorem bot_word : Ideal.ofBits .f32 0xFF800000#32 = ⊥ := by
  rw [ofBits_f32]; unfold Ideal.ieee; simp only; rw [if_pos (by decide)]; simp

/-- A group's largest magnitude. -/
theorem amaxR_at (H : FVec Ideal S48x128x48x32 .f32) (b : Fin 48) (r : Fin 128) (g : Fin 48) :
    amaxR H (ix3 b r g) = Finset.univ.sup fun o : Fin 32 => max (H (ix4 b r g o)) (-(H (ix4 b r g o))) := by
  unfold amaxR
  refine (Ideal.multiReduction_maximumf_single (a := 3) _ _ _ _ _ _).trans ?_
  refine (congrArg (fun z => Finset.fold max z _ _) bot_word).trans ?_
  refine congrArg (Finset.univ.sup (α := EReal)) (funext fun o : Fin 32 => ?_)
  have e : reduces_S48x128x48x32_S48x128x48.lift (ix3 b r g) o = ix4 b r g o := funext fun a => Fin.ext (by
    match a with
    | ⟨0, _⟩ => rfl
    | ⟨1, _⟩ => rfl
    | ⟨2, _⟩ => rfl
    | ⟨3, _⟩ => rfl)
  show max (H _) (-(H _)) = _
  rw [e]

theorem c126 : Ideal.ofBits .f32 0x42FC0000#32 = ((126 : ℝ) : EReal) := by
  rw [ofBits_f32]
  simp [Ideal.ieee]
  norm_num
  try (rw [← EReal.coe_mul]; norm_num)

theorem cneg126 : Ideal.ofBits .f32 0xC2FC0000#32 = ((-126 : ℝ) : EReal) := by
  rw [ofBits_f32]
  simp [Ideal.ieee]
  norm_num
  try (rw [← EReal.coe_mul]; norm_num)

/-- The search's difference at a power of two. -/
theorem lane_val (k : Fin 254) :
    FloatOps.sitofp (F := Ideal) .f32 (BitVec.ofNat 32 k.val) - Ideal.ofBits .f32 0x42FC0000#32 = ((((k.val : ℤ) - 126 : ℤ) : ℝ) : EReal) := by
  have e : (BitVec.ofNat 32 k.val).toInt = (k.val : ℤ) := by revert k; decide +kernel
  show (((BitVec.ofNat 32 k.val).toInt : ℝ) : EReal) - _ = _
  rw [e, c126, ← EReal.coe_sub]
  push_cast
  rfl

/-- What the search holds at a power of two: its exponent plus one if it is at most the number, else -126. -/
theorem candR_at (p : FVec Ideal S48x128x48 .f32) (b : Fin 48) (r : Fin 128) (g : Fin 48) (k : Fin 254) :
    candR p (ix4 b r g k) = if thr (k.val + 1) ≤ p (ix3 b r g) then (((k.val : ℝ) - 125 : ℝ) : EReal) else ((-126 : ℝ) : EReal) := by
  pointwise [candR]
  rw [lane_val, cneg126]
  have e : FloatOps.exp2 (F := Ideal) (φ := .f32) ((((k.val : ℤ) - 126 : ℤ) : ℝ) : EReal) = thr (k.val + 1) := by
    show Ideal.exp2 _ = _
    rw [exp2_int]
    unfold thr
    rw [show (((k.val + 1 : ℕ) : ℤ) - 127) = (k.val : ℤ) - 126 by push_cast; ring]
  rw [e]
  congr 1
  rw [← EReal.coe_one, ← EReal.coe_add]
  exact congrArg Real.toEReal (by push_cast; ring)

/-- The search's result is the supremum over the powers of two. -/
theorem searchR_at (p : FVec Ideal S48x128x48 .f32) (b : Fin 48) (r : Fin 128) (g : Fin 48) :
    searchR p (ix3 b r g) = Finset.univ.sup fun k : Fin 254 => candR p (ix4 b r g k) := by
  unfold searchR
  refine (Ideal.multiReduction_maximumf_single (a := 3) _ _ _ _ _ _).trans ?_
  refine (congrArg (fun z => Finset.fold max z _ _) bot_word).trans ?_
  refine congrArg (Finset.univ.sup (α := EReal)) (funext fun k : Fin 254 => ?_)
  have e : reduces_S48x128x48x254_S48x128x48.lift (ix3 b r g) k = ix4 b r g k := funext fun a => Fin.ext (by
    match a with
    | ⟨0, _⟩ => rfl
    | ⟨1, _⟩ => rfl
    | ⟨2, _⟩ => rfl
    | ⟨3, _⟩ => rfl)
  show candR p _ = _
  rw [e]

/-- From the smallest normal number on, the search finds the exponent field less 126. -/
theorem search_val {p : EReal} (hp : p < thr 253) (h1 : 1 ≤ field1 p) :
    (Finset.univ.sup fun k : Fin 254 => if thr (k.val + 1) ≤ p then (((k.val : ℝ) - 125 : ℝ) : EReal) else ((-126 : ℝ) : EReal))
      = (((field1 p : ℝ) - 126 : ℝ) : EReal) := by
  have hf := field1_le p
  apply le_antisymm
  · refine Finset.sup_le fun k _ => ?_
    split
    · next h =>
      rw [thr_le_iff hp (by omega)] at h
      have h' : ((k.val + 1 : ℕ) : ℝ) ≤ (field1 p : ℝ) := Nat.cast_le.mpr h
      push_cast at h'
      exact EReal.coe_le_coe_iff.mpr (by linarith)
    · exact EReal.coe_le_coe_iff.mpr (by have : (0 : ℝ) ≤ (field1 p : ℝ) := Nat.cast_nonneg _; linarith)
  · refine le_trans (le_of_eq ?_) (Finset.le_sup (f := fun k : Fin 254 => if thr (k.val + 1) ≤ p then (((k.val : ℝ) - 125 : ℝ) : EReal) else ((-126 : ℝ) : EReal))
      (Finset.mem_univ (⟨field1 p - 1, by omega⟩ : Fin 254)))
    have e : field1 p - 1 + 1 = field1 p := by omega
    show _ = if thr (field1 p - 1 + 1) ≤ p then (((field1 p - 1 : ℕ) : ℝ) - 125 : ℝ).toEReal else _
    rw [e, if_pos ((thr_le_iff hp h1).mpr le_rfl), Nat.cast_sub h1]
    exact congrArg Real.toEReal (by push_cast; ring)

theorem small_word : Ideal.ofBits .f32 0x00800000#32 = thr 1 := f32_thr 1 (by decide) (by decide)

/-- The choice between zero and the search's result. -/
theorem flush_scalar (p q : EReal) :
    Scalar.select (FloatOps.cmpf (F := Ideal) (φ := .f32) .olt p (FloatOps.ofBits .f32 0x00800000#32)) (FloatOps.ofBits (F := Ideal) .f32 0x00000000#32) q
      = if p < thr 1 then 0 else q := by
  have e0 : FloatOps.ofBits (F := Ideal) .f32 0x00000000#32 = (0 : EReal) := by
    show Ideal.ofBits .f32 0x00000000#32 = 0
    rw [ofBits_f32]; simp [Ideal.ieee]
  have e1 : FloatOps.ofBits (F := Ideal) .f32 0x00800000#32 = thr 1 := small_word
  rw [e0, e1]
  by_cases h : p < thr 1
  · rw [if_pos h]
    show Scalar.select (BitVec.ofBool (decide (p < thr 1))) _ _ = _
    rw [decide_eq_true h]; rfl
  · rw [if_neg h]
    show Scalar.select (BitVec.ofBool (decide (p < thr 1))) _ _ = _
    rw [decide_eq_false h]; rfl

/-- A number's exponent by the search is its scale byte less 127. -/
theorem exponent_of {p : EReal} (hp : p < thr 253) :
    (if p < thr 1 then 0 else Finset.univ.sup fun k : Fin 254 => if thr (k.val + 1) ≤ p then (((k.val : ℝ) - 125 : ℝ) : EReal) else ((-126 : ℝ) : EReal))
      = ((((byte1 p : ℤ) - 127 : ℤ) : ℝ) : EReal) := by
  unfold byte1
  by_cases h : p < thr 1
  · have h' := (lt_thr_iff hp (by decide)).mp h
    rw [if_pos h, if_pos (show field1 p = 0 by omega)]
    simp
  · have h' : ¬ field1 p < 1 := fun hl => h ((lt_thr_iff hp (by decide)).mpr hl)
    rw [if_neg h, if_neg (show ¬ field1 p = 0 by omega), search_val hp (by omega)]
    exact congrArg Real.toEReal (by push_cast; ring)

/-- The choice at an index. -/
theorem flush_at (p q : FVec Ideal S48x128x48 .f32) (j : S48x128x48.Idx) :
    select (cmpf .olt p (broadcast S48x128x48 (Scalar.ofBits .f32 0x00800000#32))) (broadcast S48x128x48 (Scalar.ofBits .f32 0x00000000#32)) q j
      = if p j < thr 1 then 0 else q j := flush_scalar (p j) (q j)

/-- The chosen exponents, from the ratios. -/
def pickR (p : FVec Ideal S48x128x48 .f32) : FVec Ideal S48x128x48 .f32 :=
  select (cmpf .olt p (broadcast S48x128x48 (Scalar.ofBits .f32 0x00800000#32))) (broadcast S48x128x48 (Scalar.ofBits .f32 0x00000000#32)) (searchR p)

theorem pickR_at (q : FVec Ideal S48x128x48 .f32) (b : Fin 48) (r : Fin 128) (g : Fin 48) (p : EReal) (he : q (ix3 b r g) = p) (hp : p < thr 253) :
    pickR q (ix3 b r g) = ((((byte1 p : ℤ) - 127 : ℤ) : ℝ) : EReal) := by
  unfold pickR
  rw [flush_at, searchR_at]
  simp only [candR_at, he]
  exact exponent_of hp

end Cert.ReferenceIdeal.Moe
end
-- ==== Proof.RefOut.lean ====
/- What the reference's body computes from its blocks: the hidden values, the codes, the scale bytes and the result. -/
module

public import proofs.«01_k».proof.Proof.RefValue
public import proofs.«01_k».proof.Proof.RefExponent

@[expose] public section

set_option maxRecDepth 16384

noncomputable section

namespace Cert.ReferenceIdeal.Moe

open Idealize.ShloMosaic Idealize.ShloMosaic.TcCoe Idealize.ShloMosaic.Tactic
open Cert.ReferenceIdeal Cert.ReferenceIdeal.Gen Cert.Moe

/-- The blocks hold the arguments, each block of rows beside its expert's weights. -/
structure Holds (A : Args) (x0 : Vec Ideal S48x128x3072 .fp8e4m3) (x1 : Vec Ideal S48x128x96 .i8) (x2 : Vec Ideal S48x3072x1536 .fp8e4m3)
    (x3 : Vec Ideal S48x96x1536 .i8) (x4 : Vec Ideal S48x1536x3072 .fp8e4m3) (x5 : Vec Ideal S48x48x3072 .i8) : Prop where
  x : ∀ b r k, x0 (ix3 b r k) = f8 (A.x (row b r) k)
  sx : ∀ b r g, x1 (ix3 b r g) = A.sx (row b r) g
  w1 : ∀ b k f, x2 (ix3 b k f) = f8 (A.w1 k (col (A.expert b) f))
  s1 : ∀ b g f, x3 (ix3 b g f) = A.s1 g (col (A.expert b) f)
  w2 : ∀ b f d, x4 (ix3 b f d) = f8 (A.w2 (col (A.expert b) f) d)
  s2 : ∀ b g d, x5 (ix3 b g d) = A.s2 (grp (A.expert b) g) d

variable {A : Args} {x0 : Vec Ideal S48x128x3072 .fp8e4m3} {x1 : Vec Ideal S48x128x96 .i8} {x2 : Vec Ideal S48x3072x1536 .fp8e4m3}
  {x3 : Vec Ideal S48x96x1536 .i8} {x4 : Vec Ideal S48x1536x3072 .fp8e4m3} {x5 : Vec Ideal S48x48x3072 .i8}

/-- One product of the first matrix product. -/
theorem term_at (h : Holds A x0 x1 x2 x3 x4 x5) (b : Fin 48) (r : Fin 128) (f : Fin 1536) (k : Fin 3072) :
    (k0_pay5 x0 x1 (ix3 b r k) : EReal) * k0_pay6 x2 x3 (ix3 b k f)
      = (f8 (A.x (row b r) k) * thr (A.sx (row b r) ⟨k.val / 32, by omega⟩).toNat)
        * (f8 (A.w1 k (col (A.expert b) f)) * thr (A.s1 ⟨k.val / 32, by omega⟩ (col (A.expert b) f)).toNat) := by
  rw [pay5_at, pay6_at, h.x, h.sx, h.w1, h.s1]

theorem sum_at (h : Holds A x0 x1 x2 x3 x4 x5) (b : Fin 48) (r : Fin 128) (f : Fin 1536) :
    (∑ k : Fin 3072, (k0_pay5 x0 x1 (ix3 b r k) : EReal) * k0_pay6 x2 x3 (ix3 b k f))
      = dot1 (fun k => f8 (A.x (row b r) k)) (A.sx (row b r)) (fun k => f8 (A.w1 k (col (A.expert b) f))) (fun g => A.s1 g (col (A.expert b) f)) := by
  unfold dot1
  exact Finset.sum_congr rfl fun k _ => term_at h b r f k

/-- The hidden values. -/
theorem hid_at (h : Holds A x0 x1 x2 x3 x4 x5) (b : Fin 48) (r : Fin 128) (g : Fin 48) (o : Fin 32) :
    k0_pay10 (k0_pay5 x0 x1) (k0_pay6 x2 x3) (ix4 b r g o) = A.hid b r ⟨32 * g.val + o.val, by omega⟩ := by
  generalize hX : k0_pay5 x0 x1 = X
  generalize hW : k0_pay6 x2 x3 = W
  have e : ∀ f, (∑ k : Fin 3072, X (ix3 b r k) * W (ix3 b k f)) = dot1 (fun k => f8 (A.x (row b r) k)) (A.sx (row b r))
      (fun k => f8 (A.w1 k (col (A.expert b) f))) (fun g => A.s1 g (col (A.expert b) f)) := by
    subst hX hW
    exact fun f => sum_at h b r f
  rw [pay10_at, e]
  unfold Args.hid
  with_reducible rfl

theorem mulf_index {s : Shape} (x y : FVec Ideal s .f32) (j : s.Idx) : mulf x y j = (x j : EReal) * y j := rfl
theorem broadcast_index {α : Type} (s : Shape) (x : α) (j : s.Idx) : broadcast s x j = x := rfl
theorem word448 : Scalar.ofBits (F := Ideal) .f32 0x3B124925#32 = over448 := rfl

/-- The groups' magnitudes over 448, of hidden values that are known. -/
theorem ratio_of (H : FVec Ideal S48x128x48x32 .f32) (v : Fin 1536 → EReal) (b : Fin 48) (r : Fin 128) (g : Fin 48)
    (e : ∀ o : Fin 32, H (ix4 b r g o) = v ⟨32 * g.val + o.val, by omega⟩) : ratioR H (ix3 b r g) = ratio1 v g := by
  have hm : amaxR H (ix3 b r g) = groupMax v g := by
    rw [amaxR_at]
    unfold groupMax
    exact congrArg (Finset.univ.sup (α := EReal)) (funext fun o : Fin 32 => by rw [e])
  unfold ratioR ratio1
  rw [mulf_index, broadcast_index, word448, hm]

/-- The groups' magnitudes over 448. -/
theorem ratio_at (h : Holds A x0 x1 x2 x3 x4 x5) (b : Fin 48) (r : Fin 128) (g : Fin 48) :
    ratioR (k0_pay10 (k0_pay5 x0 x1) (k0_pay6 x2 x3)) (ix3 b r g) = ratio1 (A.hid b r) g :=
  ratio_of _ _ b r g fun o => hid_at h b r g o

/-- The exponents. -/
theorem exponent_at (h : Holds A x0 x1 x2 x3 x4 x5) (hA : A.Good) (b : Fin 48) (r : Fin 128) (g : Fin 48) :
    k0_pay11 (k0_pay5 x0 x1) (k0_pay6 x2 x3) (ix3 b r g) = ((((scale1 (A.hid b r) g : ℤ) - 127 : ℤ) : ℝ) : EReal) :=
  (congrFun (pay11_eq _ _) _).trans (pickR_at _ b r g _ (ratio_at h b r g) (A.small hA b r g))

/-- A code, at the place of its group. -/
theorem pay1_at (v62 : FVec Ideal S48x128x48x32 .f32) (v83 v84 : FVec Ideal S48x128x48 .f32) (b : Fin 48) (r : Fin 128) (g : Fin 48) (o : Fin 32) :
    k0_pay1 v62 v83 v84 (ix4 b r g o) = min (Ideal.ofBits .f32 0x43E00000#32) (max (Ideal.ofBits .f32 0xC3E00000#32)
      (v62 (ix4 b r g o) * FloatOps.exp2 (F := Ideal) (φ := .f32) (v84 (ix3 b r g) - v83 (ix3 b r g)))) := by
  pointwise [k0_pay1]

/-- A code, at its place in the row. -/
theorem pay2_at (v62 : FVec Ideal S48x128x48x32 .f32) (v83 v84 : FVec Ideal S48x128x48 .f32) (b : Fin 48) (r : Fin 128) (f : Fin 1536) :
    k0_pay2 v62 v83 v84 (ix3 b r f) = k0_pay1 v62 v83 v84 (ix4 b r ⟨f.val / 32, by omega⟩ ⟨f.val % 32, by omega⟩) := by
  pointwise [k0_pay2]

/-- The second product. -/
theorem pay3_at (v47 : FVec Ideal S48x1536x3072 .bf16) (v62 : FVec Ideal S48x128x48x32 .f32) (v83 v84 : FVec Ideal S48x128x48 .f32)
    (b : Fin 48) (r : Fin 128) (d : Fin 3072) :
    k0_pay3 v47 v62 v83 v84 (ix3 b r d) = ∑ f : Fin 1536, (k0_pay1 v62 v83 v84 (ix4 b r ⟨f.val / 32, by omega⟩ ⟨f.val % 32, by omega⟩)
      * FloatOps.exp2 (F := Ideal) (φ := .f32) (v83 (ix3 b r ⟨f.val / 32, by omega⟩))) * v47 (ix3 b f d) := by
  pointwise [k0_pay3]

/-- A scale byte. -/
theorem pay4_at (v83 : FVec Ideal S48x128x48 .f32) (b : Fin 48) (r : Fin 128) (g : Fin 48) :
    k0_pay4 v83 (ix3 b r g) = (Ideal.fptosi 32 (v83 (ix3 b r g)) + 127#32).setWidth 8 := rfl

theorem exp2_down (n : ℕ) (h : n ≤ 254) : FloatOps.exp2 (F := Ideal) (φ := .f32) ((0 : EReal) - (((((n : ℤ) - 127 : ℤ) : ℝ)) : EReal)) = thr (254 - n) := by
  rw [show (0 : EReal) - (((((n : ℤ) - 127 : ℤ) : ℝ)) : EReal) = (((127 - (n : ℤ) : ℤ) : ℝ) : EReal) from by
    rw [zero_sub, ← EReal.coe_neg]; exact congrArg Real.toEReal (by push_cast; ring)]
  refine (exp2_int _).trans ?_; unfold thr
  rw [show (127 : ℤ) - n = ((254 - n : ℕ) : ℤ) - 127 from by omega]

theorem exp2_up (n : ℕ) : FloatOps.exp2 (F := Ideal) (φ := .f32) (((((n : ℤ) - 127 : ℤ) : ℝ)) : EReal) = thr n := exp2_int _

theorem byte_of (n : ℕ) (h : n ≤ 254) : (Ideal.fptosi 32 (((((n : ℤ) - 127 : ℤ) : ℝ)) : EReal) + 127#32).setWidth 8 = BitVec.ofNat 8 n := by
  have e : Ideal.toIntClamped (-(2 ^ (32 - 1) : Nat)) ((2 ^ (32 - 1) : Nat) - 1) (((((n : ℤ) - 127 : ℤ) : ℝ)) : EReal) = (n : ℤ) - 127 := by
    rw [Ideal.toIntClamped_coe, Int.floor_intCast, Int.ceil_intCast, ite_self]
    have h1 : ((2 ^ (32 - 1) : Nat) : ℤ) = 2147483648 := by norm_num
    rw [h1]; omega
  unfold Ideal.fptosi
  rw [e]
  have key : ∀ i : Fin 255, (BitVec.ofInt 32 ((i.val : ℤ) - 127) + 127#32).setWidth 8 = BitVec.ofNat 8 i.val := by decide +kernel
  exact key ⟨n, by omega⟩

/-- The codes. -/
theorem group_code (h : Holds A x0 x1 x2 x3 x4 x5) (hA : A.Good) (b : Fin 48) (r : Fin 128) (f : Fin 1536) :
    k0_pay1 (k0_pay10 (k0_pay5 x0 x1) (k0_pay6 x2 x3)) (k0_pay11 (k0_pay5 x0 x1) (k0_pay6 x2 x3)) (k0_pay12 (F := Ideal))
      (ix4 b r ⟨f.val / 32, by omega⟩ ⟨f.val % 32, by omega⟩) = A.code b r f := by
  rw [pay1_at, hid_at h, exponent_at h hA]
  rw [show k0_pay12 (F := Ideal) (ix3 b r ⟨f.val / 32, by omega⟩) = 0 from Ideal.ofBits_zero .f32]
  rw [exp2_down _ (by have := (byte1_bounds (ratio1 (A.hid b r) ⟨f.val / 32, by omega⟩)).2; unfold scale1; omega)]
  unfold Args.code code1
  rw [show (⟨32 * (f.val / 32) + f.val % 32, by omega⟩ : Fin 1536) = f from Fin.ext (by show 32 * (f.val / 32) + f.val % 32 = f.val; omega)]

theorem code_at (h : Holds A x0 x1 x2 x3 x4 x5) (hA : A.Good) (b : Fin 48) (r : Fin 128) (f : Fin 1536) :
    k0_pay2 (k0_pay10 (k0_pay5 x0 x1) (k0_pay6 x2 x3)) (k0_pay11 (k0_pay5 x0 x1) (k0_pay6 x2 x3)) (k0_pay12 (F := Ideal)) (ix3 b r f)
      = A.code b r f := (pay2_at _ _ _ b r f).trans (group_code h hA b r f)

/-- The scale bytes. -/
theorem scale_at (h : Holds A x0 x1 x2 x3 x4 x5) (hA : A.Good) (b : Fin 48) (r : Fin 128) (g : Fin 48) :
    k0_pay4 (k0_pay11 (k0_pay5 x0 x1) (k0_pay6 x2 x3)) (ix3 b r g) = A.scale b r g := by
  rw [pay4_at, exponent_at h hA]
  exact byte_of _ (by have := (byte1_bounds (ratio1 (A.hid b r) g)).2; unfold scale1; omega)

/-- The result. -/
theorem res_at (h : Holds A x0 x1 x2 x3 x4 x5) (hA : A.Good) (b : Fin 48) (r : Fin 128) (d : Fin 3072) :
    k0_pay3 (k0_pay9 (k0_pay7 x4) (k0_pay8 x5) 127#32) (k0_pay10 (k0_pay5 x0 x1) (k0_pay6 x2 x3)) (k0_pay11 (k0_pay5 x0 x1) (k0_pay6 x2 x3))
      (k0_pay12 (F := Ideal)) (ix3 b r d) = A.res b r d := by
  rw [pay3_at]
  unfold Args.res out1
  refine Finset.sum_congr rfl fun f _ => ?_
  rw [group_code h hA, exponent_at h hA, exp2_up, pay9_at, h.w2, h.s2]
  rfl

end Cert.ReferenceIdeal.Moe
end
-- ==== Proof.RefGather.lean ====
/- Gathers of whole blocks along one axis at a table of block numbers, read at an index. -/
module

public import Idealize.ShloMosaic.Lib.ValueIdx
public import Idealize.ShloMosaic.PureOps

@[expose] public section

noncomputable section

namespace Cert.Moe

open Idealize.ShloMosaic Idealize.ShloMosaic.ValueIdx

variable {α : Type} {P N R C L w : ℕ}

/-- The dimension numbers of a gather along the middle axis of `[P, N, L]`. -/
abbrev midDims (P N R C L : ℕ) (wf : GatherDims.WF ⟨3, ![P, N, L]⟩ ⟨3, ![R, C, 1]⟩ ⟨4, ![P, R, C, L]⟩ [0, 3] [1] [] [1] [] 2 ![P, 1, L]) :
    GatherDims ⟨3, ![P, N, L]⟩ ⟨3, ![R, C, 1]⟩ ⟨4, ![P, R, C, L]⟩ where
  offsetDims := [0, 3]
  collapsedSliceDims := [1]
  operandBatchingDims := []
  startIndicesBatchingDims := []
  startIndexMap := [1]
  indexVectorDim := 2
  sliceSizes := ![P, 1, L]
  wf := wf

/-- The gather along the middle axis, at an index whose table entry is in range. -/
theorem gather_mid (wf : GatherDims.WF ⟨3, ![P, N, L]⟩ ⟨3, ![R, C, 1]⟩ ⟨4, ![P, R, C, L]⟩ [0, 3] [1] [] [1] [] 2 ![P, 1, L])
    (x : (⟨3, ![P, N, L]⟩ : Shape).Idx → α) (idx : IVec ⟨3, ![R, C, 1]⟩ w) (p : Fin P) (r : Fin R) (j : Fin C) (l : Fin L) (n : Fin N)
    (hn : (idx (ix3 r j 0)).toInt.toNat = n.val) :
    Host.gather (midDims P N R C L wf) x idx (ix4 p r j l) = x (ix3 p n l) := by
  unfold Host.gather
  congr 1
  funext a
  refine Fin.ext ?_
  show (midDims P N R C L wf).start (ix4 p r j l) idx a + (midDims P N R C L wf).batchCoord (ix4 p r j l) a
      + (midDims P N R C L wf).offCoord (ix4 p r j l) a = _
  rw [GatherDims.batchCoord_eq_zero _ _ _ List.not_mem_nil]
  have ha : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases ha with rfl | rfl | rfl
  · unfold GatherDims.start GatherDims.offCoord
    rw [dif_neg (show (0 : Fin 3) ∉ (midDims P N R C L wf).startIndexMap from (by decide : (0 : Fin 3) ∉ [(1 : Fin 3)])),
      dif_pos (show (0 : Fin 3) ∈ (midDims P N R C L wf).sKept from (GatherDims.mem_sKept _ _).mpr ⟨(by decide : (0 : Fin 3) ∉ [(1 : Fin 3)]), List.not_mem_nil⟩)]
    exact (Nat.zero_add _).trans rfl
  · rw [GatherDims.offCoord_eq_zero _ _ _ (fun h => ((GatherDims.mem_sKept _ _).mp h).1 (List.mem_singleton.mpr rfl))]
    unfold GatherDims.start
    rw [dif_pos (show (1 : Fin 3) ∈ (midDims P N R C L wf).startIndexMap from List.mem_singleton.mpr rfl)]
    have hsi : (midDims P N R C L wf).siIdx (ix4 p r j l) ⟨List.idxOf (1 : Fin 3) (midDims P N R C L wf).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    refine Eq.trans (b := min (idx (ix3 r j 0)).toInt.toNat (N - 1)) (congrArg (fun i => min (idx i).toInt.toNat (N - 1)) hsi) ?_
    rw [hn]
    have := n.isLt
    show min n.val (N - 1) = n.val
    omega
  · unfold GatherDims.start GatherDims.offCoord
    rw [dif_neg (show (2 : Fin 3) ∉ (midDims P N R C L wf).startIndexMap from (by decide : (2 : Fin 3) ∉ [(1 : Fin 3)])),
      dif_pos (show (2 : Fin 3) ∈ (midDims P N R C L wf).sKept from (GatherDims.mem_sKept _ _).mpr ⟨(by decide : (2 : Fin 3) ∉ [(1 : Fin 3)]), List.not_mem_nil⟩)]
    exact (Nat.zero_add _).trans rfl

/-- The dimension numbers of a gather along the first axis of `[N, P, L]`. -/
abbrev topDims (P N R C L : ℕ) (wf : GatherDims.WF ⟨3, ![N, P, L]⟩ ⟨3, ![R, C, 1]⟩ ⟨4, ![R, C, P, L]⟩ [2, 3] [0] [] [0] [] 2 ![1, P, L]) :
    GatherDims ⟨3, ![N, P, L]⟩ ⟨3, ![R, C, 1]⟩ ⟨4, ![R, C, P, L]⟩ where
  offsetDims := [2, 3]
  collapsedSliceDims := [0]
  operandBatchingDims := []
  startIndicesBatchingDims := []
  startIndexMap := [0]
  indexVectorDim := 2
  sliceSizes := ![1, P, L]
  wf := wf

/-- The gather along the first axis, at an index whose table entry is in range. -/
theorem gather_top (wf : GatherDims.WF ⟨3, ![N, P, L]⟩ ⟨3, ![R, C, 1]⟩ ⟨4, ![R, C, P, L]⟩ [2, 3] [0] [] [0] [] 2 ![1, P, L])
    (x : (⟨3, ![N, P, L]⟩ : Shape).Idx → α) (idx : IVec ⟨3, ![R, C, 1]⟩ w) (r : Fin R) (j : Fin C) (p : Fin P) (l : Fin L) (n : Fin N)
    (hn : (idx (ix3 r j 0)).toInt.toNat = n.val) :
    Host.gather (topDims P N R C L wf) x idx (ix4 r j p l) = x (ix3 n p l) := by
  unfold Host.gather
  congr 1
  funext a
  refine Fin.ext ?_
  show (topDims P N R C L wf).start (ix4 r j p l) idx a + (topDims P N R C L wf).batchCoord (ix4 r j p l) a
      + (topDims P N R C L wf).offCoord (ix4 r j p l) a = _
  rw [GatherDims.batchCoord_eq_zero _ _ _ List.not_mem_nil]
  have ha : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (topDims P N R C L wf).startIndexMap from List.mem_singleton.mpr rfl)]
    have hsi : (topDims P N R C L wf).siIdx (ix4 r j p l) ⟨List.idxOf (0 : Fin 3) (topDims P N R C L wf).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    refine Eq.trans (b := min (idx (ix3 r j 0)).toInt.toNat (N - 1)) (congrArg (fun i => min (idx i).toInt.toNat (N - 1)) hsi) ?_
    rw [hn]
    have := n.isLt
    show min n.val (N - 1) = n.val
    omega
  · unfold GatherDims.start GatherDims.offCoord
    rw [dif_neg (show (1 : Fin 3) ∉ (topDims P N R C L wf).startIndexMap from (by decide : (1 : Fin 3) ∉ [(0 : Fin 3)])),
      dif_pos (show (1 : Fin 3) ∈ (topDims P N R C L wf).sKept from (GatherDims.mem_sKept _ _).mpr ⟨(by decide : (1 : Fin 3) ∉ [(0 : Fin 3)]), List.not_mem_nil⟩)]
    exact (Nat.zero_add _).trans rfl
  · unfold GatherDims.start GatherDims.offCoord
    rw [dif_neg (show (2 : Fin 3) ∉ (topDims P N R C L wf).startIndexMap from (by decide : (2 : Fin 3) ∉ [(0 : Fin 3)])),
      dif_pos (show (2 : Fin 3) ∈ (topDims P N R C L wf).sKept from (GatherDims.mem_sKept _ _).mpr ⟨(by decide : (2 : Fin 3) ∉ [(0 : Fin 3)]), List.not_mem_nil⟩)]
    exact (Nat.zero_add _).trans rfl

end Cert.Moe
end
-- ==== Proof.RefHost.lean ====
/- What the host operations leave in the arrays that the reference's call reads: each block of rows beside its expert's
   weights, gathered by the columns. -/
module

public import proofs.«01_k».proof.Proof.RefOut
public import proofs.«01_k».proof.Proof.RefGather
public import Idealize.ShloMosaic.Lib.StableHlo.ReadAt
public import Idealize.ShloMosaic.Lib.Claim

@[expose] public section

set_option maxRecDepth 16384

noncomputable section

namespace Cert.ReferenceIdeal.Moe

open Idealize.ShloMosaic Idealize.ShloMosaic.TcCoe Idealize.ShloMosaic.Tactic
open Idealize.SL Idealize.SL.RA Idealize.SL.BI
open scoped Idealize.SL.BI
open Cert.ReferenceIdeal Cert.ReferenceIdeal.Gen Cert.Moe

variable (m : (ℓ : Loc nD τ sig) → Buf (Elt Ideal) ℓ)

/-- What the arguments hold, in terms of `A`: bytes as they are, and each block's columns the twelve of its expert. -/
structure Given (c : Dev nD) (A : Args) : Prop where
  x : ∀ i j, (m ((c : Thread nD τ).loc main_arg0) : IVec S6144x3072 8) (ix2 i j) = A.x i j
  sx : ∀ i j, (m ((c : Thread nD τ).loc main_arg1) : IVec S6144x96 8) (ix2 i j) = A.sx i j
  w1 : ∀ i j, (m ((c : Thread nD τ).loc main_arg2) : IVec S3072x61440 8) (ix2 i j) = A.w1 i j
  s1 : ∀ i j, (m ((c : Thread nD τ).loc main_arg3) : IVec S96x61440 8) (ix2 i j) = A.s1 i j
  w2 : ∀ i j, (m ((c : Thread nD τ).loc main_arg4) : IVec S61440x3072 8) (ix2 i j) = A.w2 i j
  s2 : ∀ i j, (m ((c : Thread nD τ).loc main_arg5) : IVec S1920x3072 8) (ix2 i j) = A.s2 i j
  cols : ∀ b j, (m ((c : Thread nD τ).loc main_arg6) : IVec S48x12 32) (ix2 b j) = BitVec.ofNat 32 (12 * (A.expert b).val + j.val)

/-- A column number as the gathers read it off the table. -/
theorem start_of (a6 : IVec S48x12 32) (b : Fin 48) (j : Fin 12) (n : Fin 480) (h : a6 (ix2 b j) = BitVec.ofNat 32 n.val) :
    (broadcastInDim S48x12x1 ![0, 1] bcast_S48x12_S48x12x1_0_1 a6 (ix3 b j 0)).toInt.toNat = n.val := by
  have e : broadcastInDim S48x12x1 ![0, 1] bcast_S48x12_S48x12x1_0_1 a6 (ix3 b j 0) = a6 (ix2 b j) := by pointwise
  rw [e, h]
  have key : ∀ n : Fin 480, (BitVec.ofNat 32 n.val).toInt.toNat = n.val := by decide +kernel
  exact key n

/-- The block of 128 columns that an expert's column lies in. -/
def block (A : Args) (b : Fin 48) (f : Fin 1536) : Fin 480 := ⟨12 * (A.expert b).val + f.val / 128, by omega⟩

variable {m} {c : Dev nD} {A : Args}

theorem V_v11 (h : Given m c A) (b : Fin 48) (r : Fin 128) (k : Fin 3072) :
    V m c main_v11 (ix3 b r k) = f8 (A.x (row b r) k) := by
  unfold V V0 hostOps0 hostOps0_1 hostOps0_2 hostOps0_3 hostOps0_4 hostOps0_5 hostOps0_6 hostOps0_7 hostOps0_8
  after_reads_at
  rw [← h.x]
  exact congrArg (fun i => f8 ((m ((c : Thread nD τ).loc main_arg0) : IVec S6144x3072 8) (ix2 i k))) (Fin.ext (congrArg (· + r.val) (Nat.mul_comm _ _)))

theorem V_v12 (h : Given m c A) (b : Fin 48) (r : Fin 128) (k : Fin 96) :
    V m c main_v12 (ix3 b r k) = A.sx (row b r) k := by
  unfold V V0 hostOps0 hostOps0_1 hostOps0_2 hostOps0_3 hostOps0_4 hostOps0_5 hostOps0_6 hostOps0_7 hostOps0_8
  after_reads_at
  rw [← h.sx]
  exact congrArg (fun i => (m ((c : Thread nD τ).loc main_arg1) : IVec S6144x96 8) (ix2 i k)) (Fin.ext (congrArg (· + r.val) (Nat.mul_comm _ _)))

theorem V_v14 (h : Given m c A) (b : Fin 48) (k : Fin 3072) (f : Fin 1536) :
    V m c main_v14 (ix3 b k f) = f8 (A.w1 k (col (A.expert b) f)) := by
  unfold V V0 hostOps0 hostOps0_1 hostOps0_2 hostOps0_3 hostOps0_4 hostOps0_5 hostOps0_6 hostOps0_7 hostOps0_8
  after_reads_at
  refine (gather_mid gather_S3072x480x128_S48x12x1_S3072x48x12x128_03_1_n_n_1_2_30721128_wf _ _ k b ⟨f.val / 128, by omega⟩ ⟨f.val % 128, by omega⟩ (block A b f)
    (start_of _ b _ _ (h.cols b _))).trans ?_
  rw [← h.w1]
  exact congrArg (fun i => f8 ((m ((c : Thread nD τ).loc main_arg2) : IVec S3072x61440 8) (ix2 k i)))
    (Fin.ext (by show (12 * (A.expert b).val + f.val / 128) * 128 + f.val % 128 = 1536 * (A.expert b).val + f.val; omega))

theorem V_v16 (h : Given m c A) (b : Fin 48) (k : Fin 96) (f : Fin 1536) :
    V m c main_v16 (ix3 b k f) = A.s1 k (col (A.expert b) f) := by
  unfold V V0 hostOps0 hostOps0_1 hostOps0_2 hostOps0_3 hostOps0_4 hostOps0_5 hostOps0_6 hostOps0_7 hostOps0_8
  after_reads_at
  refine (gather_mid gather_S96x480x128_S48x12x1_S96x48x12x128_03_1_n_n_1_2_961128_wf _ _ k b ⟨f.val / 128, by omega⟩ ⟨f.val % 128, by omega⟩ (block A b f)
    (start_of _ b _ _ (h.cols b _))).trans ?_
  rw [← h.s1]
  exact congrArg (fun i => (m ((c : Thread nD τ).loc main_arg3) : IVec S96x61440 8) (ix2 k i))
    (Fin.ext (by show (12 * (A.expert b).val + f.val / 128) * 128 + f.val % 128 = 1536 * (A.expert b).val + f.val; omega))

theorem V_v17 (h : Given m c A) (b : Fin 48) (f : Fin 1536) (d : Fin 3072) :
    V m c main_v17 (ix3 b f d) = f8 (A.w2 (col (A.expert b) f) d) := by
  unfold V V0 hostOps0 hostOps0_1 hostOps0_2 hostOps0_3 hostOps0_4 hostOps0_5 hostOps0_6 hostOps0_7 hostOps0_8
  after_reads_at
  refine (gather_top gather_S480x128x3072_S48x12x1_S48x12x128x3072_23_0_n_n_0_2_11283072_wf _ _ b ⟨f.val / 128, by omega⟩ ⟨f.val % 128, by omega⟩ d (block A b f)
    (start_of _ b _ _ (h.cols b _))).trans ?_
  rw [← h.w2]
  exact congrArg (fun i => f8 ((m ((c : Thread nD τ).loc main_arg4) : IVec S61440x3072 8) (ix2 i d)))
    (Fin.ext (by show (12 * (A.expert b).val + f.val / 128) * 128 + f.val % 128 = 1536 * (A.expert b).val + f.val; omega))

theorem V_v18 (h : Given m c A) (b : Fin 48) (g : Fin 48) (d : Fin 3072) :
    V m c main_v18 (ix3 b g d) = A.s2 (grp (A.expert b) g) d := by
  unfold V V0 hostOps0 hostOps0_1 hostOps0_2 hostOps0_3 hostOps0_4 hostOps0_5 hostOps0_6 hostOps0_7 hostOps0_8
  after_reads_at
  refine (gather_top gather_S480x4x3072_S48x12x1_S48x12x4x3072_23_0_n_n_0_2_143072_wf _ _ b ⟨g.val / 4, by omega⟩ ⟨g.val % 4, by omega⟩ d
    ⟨12 * (A.expert b).val + g.val / 4, by omega⟩ (start_of _ b _ _ (h.cols b _))).trans ?_
  rw [← h.s2]
  exact congrArg (fun i => (m ((c : Thread nD τ).loc main_arg5) : IVec S1920x3072 8) (ix2 i d))
    (Fin.ext (by show (12 * (A.expert b).val + g.val / 4) * 4 + g.val % 4 = 48 * (A.expert b).val + g.val; omega))

/-- The call's arrays hold the arguments. -/
theorem holds (h : Given m c A) :
    Holds A (V m c main_v11) (V m c main_v12) (V m c main_v14) (V m c main_v16) (V m c main_v17) (V m c main_v18) :=
  ⟨V_v11 h, V_v12 h, V_v14 h, V_v16 h, V_v17 h, V_v18 h⟩

end Cert.ReferenceIdeal.Moe
end
-- ==== Proof.RefArray.lean ====
/- What the reference's arrays hold after its call, and the results reshaped from them, in terms of its arguments. -/
module

public import proofs.«01_k».proof.Proof.RefHost

@[expose] public section

set_option maxRecDepth 16384

noncomputable section

namespace Cert.ReferenceIdeal.Moe

open Idealize.ShloMosaic Idealize.ShloMosaic.TcCoe Idealize.ShloMosaic.Tactic
open Idealize.SL Idealize.SL.RA Idealize.SL.BI
open scoped Idealize.SL.BI
open Idealize.ShloMosaic.Pipeline (Dat Cfg Window)
open Cert.ReferenceIdeal Cert.ReferenceIdeal.Gen Cert.Moe

variable {m : (ℓ : Loc nD τ sig) → Buf (Elt Ideal) ℓ} {c : Dev nD} {A : Args}

/-- Window 0 is its whole array. -/
theorem emb_0 (t : Fin cfg0.N) (y : S48x128x3072.Idx) : (((cfg0.win 0).blk t).view.emb y : S48x128x3072.Idx) = y :=
  funext fun a => Fin.ext ((cfg0.win 0).rect_emb_val_of_index_zero t a (by match a with | ⟨0, _⟩ => rfl | ⟨1, _⟩ => rfl | ⟨2, _⟩ => rfl) y)

/-- Window 1 is its whole array. -/
theorem emb_1 (t : Fin cfg0.N) (y : S48x128x96.Idx) : (((cfg0.win 1).blk t).view.emb y : S48x128x96.Idx) = y :=
  funext fun a => Fin.ext ((cfg0.win 1).rect_emb_val_of_index_zero t a (by match a with | ⟨0, _⟩ => rfl | ⟨1, _⟩ => rfl | ⟨2, _⟩ => rfl) y)

/-- Window 2 is its whole array. -/
theorem emb_2 (t : Fin cfg0.N) (y : S48x3072x1536.Idx) : (((cfg0.win 2).blk t).view.emb y : S48x3072x1536.Idx) = y :=
  funext fun a => Fin.ext ((cfg0.win 2).rect_emb_val_of_index_zero t a (by match a with | ⟨0, _⟩ => rfl | ⟨1, _⟩ => rfl | ⟨2, _⟩ => rfl) y)

/-- Window 3 is its whole array. -/
theorem emb_3 (t : Fin cfg0.N) (y : S48x96x1536.Idx) : (((cfg0.win 3).blk t).view.emb y : S48x96x1536.Idx) = y :=
  funext fun a => Fin.ext ((cfg0.win 3).rect_emb_val_of_index_zero t a (by match a with | ⟨0, _⟩ => rfl | ⟨1, _⟩ => rfl | ⟨2, _⟩ => rfl) y)

/-- Window 4 is its whole array. -/
theorem emb_4 (t : Fin cfg0.N) (y : S48x1536x3072.Idx) : (((cfg0.win 4).blk t).view.emb y : S48x1536x3072.Idx) = y :=
  funext fun a => Fin.ext ((cfg0.win 4).rect_emb_val_of_index_zero t a (by match a with | ⟨0, _⟩ => rfl | ⟨1, _⟩ => rfl | ⟨2, _⟩ => rfl) y)

/-- Window 5 is its whole array. -/
theorem emb_5 (t : Fin cfg0.N) (y : S48x48x3072.Idx) : (((cfg0.win 5).blk t).view.emb y : S48x48x3072.Idx) = y :=
  funext fun a => Fin.ext ((cfg0.win 5).rect_emb_val_of_index_zero t a (by match a with | ⟨0, _⟩ => rfl | ⟨1, _⟩ => rfl | ⟨2, _⟩ => rfl) y)

/-- Window 6 is its whole array. -/
theorem emb_6 (t : Fin cfg0.N) (y : S48x128x3072.Idx) : (((cfg0.win 6).blk t).view.emb y : S48x128x3072.Idx) = y :=
  funext fun a => Fin.ext ((cfg0.win 6).rect_emb_val_of_index_zero t a (by match a with | ⟨0, _⟩ => rfl | ⟨1, _⟩ => rfl | ⟨2, _⟩ => rfl) y)

/-- Window 7 is its whole array. -/
theorem emb_7 (t : Fin cfg0.N) (y : S48x128x1536.Idx) : (((cfg0.win 7).blk t).view.emb y : S48x128x1536.Idx) = y :=
  funext fun a => Fin.ext ((cfg0.win 7).rect_emb_val_of_index_zero t a (by match a with | ⟨0, _⟩ => rfl | ⟨1, _⟩ => rfl | ⟨2, _⟩ => rfl) y)

/-- Window 8 is its whole array. -/
theorem emb_8 (t : Fin cfg0.N) (y : S48x128x48.Idx) : (((cfg0.win 8).blk t).view.emb y : S48x128x48.Idx) = y :=
  funext fun a => Fin.ext ((cfg0.win 8).rect_emb_val_of_index_zero t a (by match a with | ⟨0, _⟩ => rfl | ⟨1, _⟩ => rfl | ⟨2, _⟩ => rfl) y)

theorem iblk_0 (t : Fin cfg0.N) : iblk m c 0 t = V m c main_v11 :=
  funext fun y => congrArg (V m c main_v11) (emb_0 t y)

theorem iblk_1 (t : Fin cfg0.N) : iblk m c 1 t = V m c main_v12 :=
  funext fun y => congrArg (V m c main_v12) (emb_1 t y)

theorem iblk_2 (t : Fin cfg0.N) : iblk m c 2 t = V m c main_v14 :=
  funext fun y => congrArg (V m c main_v14) (emb_2 t y)

theorem iblk_3 (t : Fin cfg0.N) : iblk m c 3 t = V m c main_v16 :=
  funext fun y => congrArg (V m c main_v16) (emb_3 t y)

theorem iblk_4 (t : Fin cfg0.N) : iblk m c 4 t = V m c main_v17 :=
  funext fun y => congrArg (V m c main_v17) (emb_4 t y)

theorem iblk_5 (t : Fin cfg0.N) : iblk m c 5 t = V m c main_v18 :=
  funext fun y => congrArg (V m c main_v18) (emb_5 t y)

/-- The origin of a block of three axes, as it is written. -/
theorem origin : (![0, 0, 0] : Fin 3 → Nat) = fun _ => 0 :=
  funext fun a => by match a with | ⟨0, _⟩ => rfl | ⟨1, _⟩ => rfl | ⟨2, _⟩ => rfl

theorem ld_0 (x : Vec Ideal S48x128x3072 .fp8e4m3) : View.ld x r0_0 = x := View.ld_unit_zero (Val := Elt Ideal) (S := S48x128x3072) (off := ![0, 0, 0]) origin _ x
theorem ld_1 (x : Vec Ideal S48x128x96 .i8) : View.ld x r0_1 = x := View.ld_unit_zero (Val := Elt Ideal) (S := S48x128x96) (off := ![0, 0, 0]) origin _ x
theorem ld_2 (x : Vec Ideal S48x3072x1536 .fp8e4m3) : View.ld x r0_2 = x := View.ld_unit_zero (Val := Elt Ideal) (S := S48x3072x1536) (off := ![0, 0, 0]) origin _ x
theorem ld_3 (x : Vec Ideal S48x96x1536 .i8) : View.ld x r0_3 = x := View.ld_unit_zero (Val := Elt Ideal) (S := S48x96x1536) (off := ![0, 0, 0]) origin _ x
theorem ld_4 (x : Vec Ideal S48x1536x3072 .fp8e4m3) : View.ld x r0_4 = x := View.ld_unit_zero (Val := Elt Ideal) (S := S48x1536x3072) (off := ![0, 0, 0]) origin _ x
theorem ld_5 (x : Vec Ideal S48x48x3072 .i8) : View.ld x r0_5 = x := View.ld_unit_zero (Val := Elt Ideal) (S := S48x48x3072) (off := ![0, 0, 0]) origin _ x

/-- What the body leaves in window 6. -/
theorem out_6 (x0 : Vec Ideal S48x128x3072 .fp8e4m3) (x1 : Vec Ideal S48x128x96 .i8) (x2 : Vec Ideal S48x3072x1536 .fp8e4m3)
    (x3 : Vec Ideal S48x96x1536 .i8) (x4 : Vec Ideal S48x1536x3072 .fp8e4m3) (x5 : Vec Ideal S48x48x3072 .i8)
    (h : Holds A x0 x1 x2 x3 x4 x5) (hA : A.Good) :
    out0_6 x0 x1 x2 x3 x4 x5 = fun j : S48x128x3072.Idx => A.res (j 0) (j 1) (j 2) := by
  unfold_out out0_6
  refine (View.canon_unit_zero (Val := Elt Ideal) origin _ _).trans ?_
  rw [ld_0, ld_1, ld_2, ld_3, ld_4, ld_5]
  funext j
  have e : j = ix3 (j 0) (j 1) (j 2) := funext fun a => by match a with | ⟨0, _⟩ => rfl | ⟨1, _⟩ => rfl | ⟨2, _⟩ => rfl
  refine (congrArg _ e).trans ?_
  exact res_at h hA (j 0) (j 1) (j 2)

/-- What the body leaves in window 7. -/
theorem out_7 (x0 : Vec Ideal S48x128x3072 .fp8e4m3) (x1 : Vec Ideal S48x128x96 .i8) (x2 : Vec Ideal S48x3072x1536 .fp8e4m3)
    (x3 : Vec Ideal S48x96x1536 .i8) (x4 : Vec Ideal S48x1536x3072 .fp8e4m3) (x5 : Vec Ideal S48x48x3072 .i8)
    (h : Holds A x0 x1 x2 x3 x4 x5) (hA : A.Good) :
    out0_7 x0 x1 x2 x3 x4 x5 = fun j : S48x128x1536.Idx => A.code (j 0) (j 1) (j 2) := by
  unfold_out out0_7
  refine (View.canon_unit_zero (Val := Elt Ideal) origin _ _).trans ?_
  rw [ld_0, ld_1, ld_2, ld_3]
  funext j
  have e : j = ix3 (j 0) (j 1) (j 2) := funext fun a => by match a with | ⟨0, _⟩ => rfl | ⟨1, _⟩ => rfl | ⟨2, _⟩ => rfl
  refine (congrArg _ e).trans ?_
  exact code_at h hA (j 0) (j 1) (j 2)

/-- What the body leaves in window 8. -/
theorem out_8 (x0 : Vec Ideal S48x128x3072 .fp8e4m3) (x1 : Vec Ideal S48x128x96 .i8) (x2 : Vec Ideal S48x3072x1536 .fp8e4m3)
    (x3 : Vec Ideal S48x96x1536 .i8) (x4 : Vec Ideal S48x1536x3072 .fp8e4m3) (x5 : Vec Ideal S48x48x3072 .i8)
    (h : Holds A x0 x1 x2 x3 x4 x5) (hA : A.Good) :
    out0_8 x0 x1 x2 x3 x4 x5 = fun j : S48x128x48.Idx => A.scale (j 0) (j 1) (j 2) := by
  unfold_out out0_8
  refine (View.canon_unit_zero (Val := Elt Ideal) origin _ _).trans ?_
  rw [ld_0, ld_1, ld_2, ld_3]
  funext j
  have e : j = ix3 (j 0) (j 1) (j 2) := funext fun a => by match a with | ⟨0, _⟩ => rfl | ⟨1, _⟩ => rfl | ⟨2, _⟩ => rfl
  refine (congrArg _ e).trans ?_
  exact scale_at h hA (j 0) (j 1) (j 2)

/-- The array of window 6 after the call. -/
theorem array_6 (h : Given m c A) (hA : A.Good) :
    (dats m 0 c).arrAt 6 cfg0.N = fun j : S48x128x3072.Idx => A.res (j 0) (j 1) (j 2) := by
  refine (dats m 0 c).arrAt_eq_of_cover 6 _ (fun t _ => ?_) (fun i => ⟨t0_0, flush0_6 _, Finset.mem_map.mpr ⟨i, Finset.mem_univ _, emb_6 t0_0 i⟩⟩)
  funext y
  refine (congrFun (after0_6 m c t) y).trans ?_
  rw [iblk_0, iblk_1, iblk_2, iblk_3, iblk_4, iblk_5, out_6 _ _ _ _ _ _ (holds h) hA]
  exact congrArg (fun j : S48x128x3072.Idx => A.res (j 0) (j 1) (j 2)) (emb_6 t y).symm

/-- The array of window 7 after the call. -/
theorem array_7 (h : Given m c A) (hA : A.Good) :
    (dats m 0 c).arrAt 7 cfg0.N = fun j : S48x128x1536.Idx => A.code (j 0) (j 1) (j 2) := by
  refine (dats m 0 c).arrAt_eq_of_cover 7 _ (fun t _ => ?_) (fun i => ⟨t0_0, flush0_7 _, Finset.mem_map.mpr ⟨i, Finset.mem_univ _, emb_7 t0_0 i⟩⟩)
  funext y
  refine (congrFun (after0_7 m c t) y).trans ?_
  rw [iblk_0, iblk_1, iblk_2, iblk_3, iblk_4, iblk_5, out_7 _ _ _ _ _ _ (holds h) hA]
  exact congrArg (fun j : S48x128x1536.Idx => A.code (j 0) (j 1) (j 2)) (emb_7 t y).symm

/-- The array of window 8 after the call. -/
theorem array_8 (h : Given m c A) (hA : A.Good) :
    (dats m 0 c).arrAt 8 cfg0.N = fun j : S48x128x48.Idx => A.scale (j 0) (j 1) (j 2) := by
  refine (dats m 0 c).arrAt_eq_of_cover 8 _ (fun t _ => ?_) (fun i => ⟨t0_0, flush0_8 _, Finset.mem_map.mpr ⟨i, Finset.mem_univ _, emb_8 t0_0 i⟩⟩)
  funext y
  refine (congrFun (after0_8 m c t) y).trans ?_
  rw [iblk_0, iblk_1, iblk_2, iblk_3, iblk_4, iblk_5, out_8 _ _ _ _ _ _ (holds h) hA]
  exact congrArg (fun j : S48x128x48.Idx => A.scale (j 0) (j 1) (j 2)) (emb_8 t y).symm

end Cert.ReferenceIdeal.Moe
end
-- ==== Proof.RefRun.lean ====
/- What the reference's run ends with, in terms of its arguments. -/
module

public import proofs.«01_k».proof.Proof.RefArray
public import Idealize.ShloMosaic.Lib.StableHlo.ReadAt

@[expose] public section

set_option maxRecDepth 16384

noncomputable section

namespace Cert.ReferenceIdeal.Moe

open Idealize.ShloMosaic Idealize.ShloMosaic.TcCoe Idealize.ShloMosaic.Tactic
open Idealize.SL Idealize.SL.RA Idealize.SL.BI Idealize.SL.Sem
open scoped Idealize.SL.BI
open Idealize.ShloMosaic.Pipeline (Dat Cfg Window)
open Cert.ReferenceIdeal Cert.ReferenceIdeal.Gen Cert.Moe

variable {m : (ℓ : Loc nD τ sig) → Buf (Elt Ideal) ℓ} {c : Dev nD} {A : Args}

/-- No two windows of the call share an array. -/
theorem arr_inj : Function.Injective (Pipeline.arrRef spec0) := by decide

/-- Result 1, flattened from the call's array. -/
theorem tail_6 (h : Given m c A) (hA : A.Good) :
    Pipeline.afterTail₀ cfgs (dats m) 0 (V0 m) [hostOps1] c main_v20 = fun j : S6144x3072.Idx => A.res (blk (j 0)) (sub (j 0)) (j 1) := by
  have e : Pipeline.withArrays (cfgs 0).spec c (V0 m c) (fun w => (dats m 0 c).arrAt w (cfgs 0).N) (Proc.devRef .tc main_v19_0)
      = fun j : S48x128x3072.Idx => A.res (j 0) (j 1) (j 2) :=
    (Pipeline.withArrays_arr spec0 arr_inj c (V0 m c) (fun w => (dats m 0 c).arrAt w (cfgs 0).N) 6).trans (array_6 h hA)
  unfold Pipeline.afterTail₀ hostOps1
  generalize Pipeline.withArrays (cfgs 0).spec c (V0 m c) (fun w => (dats m 0 c).arrAt w (cfgs 0).N) = W at e ⊢
  funext j
  after_reads_at
  exact congrFun e _

/-- Result 2, flattened from the call's array. -/
theorem tail_7 (h : Given m c A) (hA : A.Good) :
    Pipeline.afterTail₀ cfgs (dats m) 0 (V0 m) [hostOps1] c main_v21 = fun j : S6144x1536.Idx => A.code (blk (j 0)) (sub (j 0)) (j 1) := by
  have e : Pipeline.withArrays (cfgs 0).spec c (V0 m c) (fun w => (dats m 0 c).arrAt w (cfgs 0).N) (Proc.devRef .tc main_v19_1)
      = fun j : S48x128x1536.Idx => A.code (j 0) (j 1) (j 2) :=
    (Pipeline.withArrays_arr spec0 arr_inj c (V0 m c) (fun w => (dats m 0 c).arrAt w (cfgs 0).N) 7).trans (array_7 h hA)
  unfold Pipeline.afterTail₀ hostOps1
  generalize Pipeline.withArrays (cfgs 0).spec c (V0 m c) (fun w => (dats m 0 c).arrAt w (cfgs 0).N) = W at e ⊢
  funext j
  after_reads_at
  exact congrFun e _

/-- Result 3, flattened from the call's array. -/
theorem tail_8 (h : Given m c A) (hA : A.Good) :
    Pipeline.afterTail₀ cfgs (dats m) 0 (V0 m) [hostOps1] c main_v22 = fun j : S6144x48.Idx => A.scale (blk (j 0)) (sub (j 0)) (j 1) := by
  have e : Pipeline.withArrays (cfgs 0).spec c (V0 m c) (fun w => (dats m 0 c).arrAt w (cfgs 0).N) (Proc.devRef .tc main_v19_2)
      = fun j : S48x128x48.Idx => A.scale (j 0) (j 1) (j 2) :=
    (Pipeline.withArrays_arr spec0 arr_inj c (V0 m c) (fun w => (dats m 0 c).arrAt w (cfgs 0).N) 8).trans (array_8 h hA)
  unfold Pipeline.afterTail₀ hostOps1
  generalize Pipeline.withArrays (cfgs 0).spec c (V0 m c) (fun w => (dats m 0 c).arrAt w (cfgs 0).N) = W at e ⊢
  funext j
  after_reads_at
  exact congrFun e _

variable (m) in
/-- The reference's run: its three results, and its arguments unchanged. -/
theorem run (g : Dev nD → PrngReg) (A : Dev nD → Args) (h : ∀ c, Given m c (A c)) (hA : ∀ c, (A c).Good) :
    θ_run defs (onTc (τ := τ) (main (F := Ideal))) ⟨m, fun _ => 0, g⟩ (fun r => ∀ c : Dev nD,
      r.2.mem ((c.tc : Thread nD τ).loc main_v20) = (fun j : S6144x3072.Idx => (A c).res (blk (j 0)) (sub (j 0)) (j 1))
      ∧ r.2.mem ((c.tc : Thread nD τ).loc main_v21) = (fun j : S6144x1536.Idx => (A c).code (blk (j 0)) (sub (j 0)) (j 1))
      ∧ r.2.mem ((c.tc : Thread nD τ).loc main_v22) = (fun j : S6144x48.Idx => (A c).scale (blk (j 0)) (sub (j 0)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c =>
    ⟨((hr.1 c).2 main_v20 (Pipeline.mem_restRefs_of main_v20 (by decide) (by decide))).trans (tail_6 (h c) (hA c)),
      ((hr.1 c).2 main_v21 (Pipeline.mem_restRefs_of main_v21 (by decide) (by decide))).trans (tail_7 (h c) (hA c)),
      ((hr.1 c).2 main_v22 (Pipeline.mem_restRefs_of main_v22 (by decide) (by decide))).trans (tail_8 (h c) (hA c)),
      hr.2 c⟩) (θ_run_and (run_main m g) (unchanged m g))

end Cert.ReferenceIdeal.Moe
end
-- ==== Proof.Equation.lean ====
/- The kernel's three results are the reference's, on arguments that the precondition allows. -/
module

public import proofs.«01_k».proof.Defs
public import proofs.«01_k».proof.Proof.KernelArray
public import proofs.«01_k».proof.Proof.PreValue
public import proofs.«01_k».proof.Proof.FrameClaim
public import proofs.«01_k».proof.Proof.RefRun

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI Idealize.SL.Sem
open scoped Idealize.SL.BI
open Cert.KernelIdeal Cert.KernelIdeal.Gen
open Cert.Moe

variable {m : (ℓ : Loc nD τ sig) → Buf (Elt Ideal) ℓ}

/-- What the precondition says of the arguments on a device. -/
theorem asked (h : Cert.Pre_KernelIdeal_pre (hPre_pre := Cert.Pre_pre.Gen.facts) m) (c : Dev nD) :
    Asked (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) (m ((c.tc : Thread nD τ).loc main_arg6)) :=
  asked_of _ _ _ _ _ _ _ (h c)

theorem good (h : Cert.Pre_KernelIdeal_pre (hPre_pre := Cert.Pre_pre.Gen.facts) m) (hc : Cols (m ((0 : Dev nD).tc.loc main_arg6))) (c : Dev nD) :
    (args hc c).Good where
  x _ _ := (asked h c).x _
  w1 _ _ := (asked h c).w1 _
  sx _ _ := (asked h c).sx _
  s1 _ _ := (asked h c).s1 _
  s2 _ _ := (asked h c).s2 _

/-- The kernel's program ends with its arguments unchanged and every counter at zero, under the equation's precondition. -/
theorem frame_pre : Cert.quiescent_KernelIdeal_pre_pre (hKernelIdeal := Cert.KernelIdeal.Gen.facts) (hPre_pre := Cert.Pre_pre.Gen.facts) := fun m g h =>
  have hc := (asked h 0).cols
  (θ_run defs _ _).mono (fun r hr => ⟨args_of_post m (ok_of hc) hr.1, hr.2⟩) (run_main m g (ok_of hc))

/-- THE EQUATION: from equal arguments the two programs end with equal results. -/
theorem equation : Cert.algebraic_KernelIdeal_ReferenceIdeal_pre_pre (hKernelIdeal := Cert.KernelIdeal.Gen.facts)
    (hReferenceIdeal := Cert.ReferenceIdeal.Gen.facts) (hPre_pre := Cert.Pre_pre.Gen.facts) := fun m g m' g' h e => by
  have hc := (asked h 0).cols
  refine ⟨fun c => (fun j : S6144x3072.Idx => (args hc c).res (blk (j 0)) (sub (j 0)) (j 1)),
    fun c => (fun j : S6144x1536.Idx => (args hc c).code (blk (j 0)) (sub (j 0)) (j 1)),
    fun c => (fun j : S6144x48.Idx => (args hc c).scale (blk (j 0)) (sub (j 0)) (j 1)), ?_, ?_⟩
  · exact (θ_run defs _ _).mono (fun r hr c =>
      ⟨((hr.1 c).1 6).trans (array_6 hc (ok_of hc) c (good h hc c)), ((hr.1 c).1 7).trans (array_7 hc (ok_of hc) c (good h hc c)),
        ((hr.1 c).1 8).trans (array_8 hc (ok_of hc) c (good h hc c)), args_of_post m (ok_of hc) hr.1 c⟩) (run_main m g (ok_of hc))
  · refine Cert.ReferenceIdeal.Moe.run m' g' (args hc) (fun c => ?_) (good h hc)
    obtain ⟨e0, e1, e2, e3, e4, e5, e6⟩ := e c
    obtain rfl : c = 0 := Subsingleton.elim _ _
    exact ⟨fun i j => congrFun e0 _, fun i j => congrFun e1 _, fun i j => congrFun e2 _, fun i j => congrFun e3 _,
      fun i j => congrFun e4 _, fun i j => congrFun e5 _, fun b j => (congrFun e6 _).trans (blockOf_col hc b j)⟩

end Cert.KernelIdeal.Moe
end
-- ==== Proof.lean ====
/- The certificate: every claim of `Defs.lean`, from the modules beside it. -/
module

public import proofs.«01_k».proof.Defs
public import proofs.«01_k».proof.Proof.Gen.ReferenceIdeal.Frame
public import proofs.«01_k».proof.Proof.Gen.Pre_pre
public import proofs.«01_k».proof.Proof.Gen.Kernel
public import proofs.«01_k».proof.Proof.Gen.Pre_cols
public import proofs.«01_k».proof.Proof.FrameClaim
public import proofs.«01_k».proof.Proof.Equation

@[expose] public section

open Idealize.ShloMosaic Idealize.SL.Sem

namespace Cert.Proof

/-- The frame of the kernel's program at bit patterns is that of the idealized one, whose text is the same. -/
theorem frame_eq : Cert.quiescent_Kernel (hKernel := Cert.Kernel.Gen.facts) (hPre_cols := Cert.Pre_cols.Gen.facts) = Cert.KernelIdeal.Moe.Frame (F := Bits) := by
  chain_rfl

/-- Everything that the certificate claims. -/
theorem claim : Cert.Claim :=
  ⟨Cert.Kernel.Gen.facts, Cert.KernelIdeal.Gen.facts, Cert.ReferenceIdeal.Gen.facts, Cert.Pre_cols.Gen.facts, Cert.Pre_pre.Gen.facts,
    frame_eq.mpr Cert.KernelIdeal.Moe.frame,
    Cert.KernelIdeal.Moe.frame,
    Cert.KernelIdeal.Moe.frame_pre,
    fun m g _ => Cert.ReferenceIdeal.Gen.frame m g,
    fun m g _ => Cert.ReferenceIdeal.Gen.frame m g,
    trivial,
    Cert.KernelIdeal.Moe.equation⟩

end Cert.Proof
